-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S384x1x12288 : Shape := ⟨3, ![384, 1, 12288]⟩
abbrev S1536x4096 : Shape := ⟨2, ![1536, 4096]⟩
abbrev S96x4096 : Shape := ⟨2, ![96, 4096]⟩
abbrev S96x512 : Shape := ⟨2, ![96, 512]⟩
abbrev S384x12288 : Shape := ⟨2, ![384, 12288]⟩
abbrev S384x4096 : Shape := ⟨2, ![384, 4096]⟩
abbrev S1x384 : Shape := ⟨2, ![1, 384]⟩
abbrev S1536x512 : Shape := ⟨2, ![1536, 512]⟩
abbrev S96x128 : Shape := ⟨2, ![96, 128]⟩
abbrev S8x512 : Shape := ⟨2, ![8, 512]⟩
abbrev S384x128 : Shape := ⟨2, ![384, 128]⟩
abbrev S384x128x1 : Shape := ⟨3, ![384, 128, 1]⟩
abbrev S384x512 : Shape := ⟨2, ![384, 512]⟩
abbrev S8x128 : Shape := ⟨2, ![8, 128]⟩
abbrev S8x128x1 : Shape := ⟨3, ![8, 128, 1]⟩
abbrev S1x128 : Shape := ⟨2, ![1, 128]⟩
abbrev S16x128 : Shape := ⟨2, ![16, 128]⟩
abbrev S64x128 : Shape := ⟨2, ![64, 128]⟩
abbrev S1024x128 : Shape := ⟨2, ![1024, 128]⟩
abbrev S1024x512 : Shape := ⟨2, ![1024, 512]⟩
abbrev S384x1024 : Shape := ⟨2, ![384, 1024]⟩
abbrev S384 : Shape := ⟨1, ![384]⟩
abbrev S384x1 : Shape := ⟨2, ![384, 1]⟩
abbrev S384x1x4096 : Shape := ⟨3, ![384, 1, 4096]⟩

abbrev nBuf : Space → Nat
  | .hbm => 9
  | .vmem => 13
  | .smem => 0
  | _ => 0

abbrev bufTy : (tb : Table) → Fin (tcTables nBuf tb) → BufTy
  | .hbm, ⟨0, _⟩ => ⟨S384x1x12288, .bf16⟩
  | .hbm, ⟨1, _⟩ => ⟨S1536x4096, .i32⟩
  | .hbm, ⟨2, _⟩ => ⟨S96x4096, .bf16⟩
  | .hbm, ⟨3, _⟩ => ⟨S96x512, .i32⟩
  | .hbm, ⟨4, _⟩ => ⟨S384x12288, .bf16⟩
  | .hbm, ⟨5, _⟩ => ⟨S384x4096, .fp8e4m3⟩
  | .hbm, ⟨6, _⟩ => ⟨S1x384, .f32⟩
  | .hbm, ⟨7, _⟩ => ⟨S384x1x4096, .fp8e4m3⟩
  | .hbm, ⟨8, _⟩ => ⟨S384x1, .f32⟩
  | .local _ .vmem, ⟨0, _⟩ => ⟨S384x12288, .bf16⟩
  | .local _ .vmem, ⟨1, _⟩ => ⟨S1536x512, .i32⟩
  | .local _ .vmem, ⟨2, _⟩ => ⟨S1536x512, .i32⟩
  | .local _ .vmem, ⟨3, _⟩ => ⟨S96x512, .bf16⟩
  | .local _ .vmem, ⟨4, _⟩ => ⟨S96x512, .bf16⟩
  | .local _ .vmem, ⟨5, _⟩ => ⟨S96x128, .i32⟩
  | .local _ .vmem, ⟨6, _⟩ => ⟨S96x128, .i32⟩
  | .local _ .vmem, ⟨7, _⟩ => ⟨S384x4096, .fp8e4m3⟩
  | .local _ .vmem, ⟨8, _⟩ => ⟨S1x384, .f32⟩
  | .local _ .vmem, ⟨9, _⟩ => ⟨S384x12288, .bf16⟩
  | .local _ .vmem, ⟨10, _⟩ => ⟨S384x4096, .f32⟩
  | .local _ .vmem, ⟨11, _⟩ => ⟨S8x512, .i32⟩
  | .local _ .vmem, ⟨12, _⟩ => ⟨S8x512, .f32⟩
  | _, _ => ⟨S384x1x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4 : BitVec 32 := 0#32
  let c96_i32 : BitVec 32 := 96#32
  let v15 : BitVec 32 := Scalar.addi c0_i32_4 c96_i32
  let c1_i32_5 : BitVec 32 := 1#32
  ⟨c0_i32_4, v15, c1_i32_5⟩
def k0_mult1 (k0_t1 : Fin k0_t1_loop.trips) : BitVec 32 :=
  let c0_i32_4 : BitVec 32 := 0#32
  let c1_i32_5 : BitVec 32 := 1#32
  let arg11 : BitVec 32 := Scf.iv c0_i32_4 c1_i32_5 k0_t1
  let c128_i32 : BitVec 32 := 128#32
  let v16 : BitVec 32 := Scalar.muli arg11 c128_i32
  v16
def k0_off1 (k0_t1 : Fin k0_t1_loop.trips) : Fin 2 → Nat :=
  let c0_7 : Index := 0#32
  let c0_i32_4 : BitVec 32 := 0#32
  let c1_i32_5 : BitVec 32 := 1#32
  let arg11 : BitVec 32 := Scf.iv c0_i32_4 c1_i32_5 k0_t1
  let c128_i32 : BitVec 32 := 128#32
  let v16 : BitVec 32 := Scalar.muli arg11 c128_i32
  let v17 : BitVec 32 := v16
  let v18 : Index := Scalar.indexCast v17
  ![0, v18.toNat]
@[reducible] def k0_t2_loop : Scf.Loop 32 :=
  let c0_i32_1 : BitVec 32 := 0#32
  let c12_i32 : BitVec 32 := 12#32
  let v4 : BitVec 32 := Scalar.addi c0_i32_1 c12_i32
  let c1_i32 : BitVec 32 := 1#32
  ⟨c0_i32_1, v4, c1_i32⟩
def k0_mult2 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c8_i32 : BitVec 32 := 8#32
  let v15 : BitVec 32 := Scalar.muli arg11 c8_i32
  v15
def k0_off2 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c8_i32 : BitVec 32 := 8#32
  let v15 : BitVec 32 := Scalar.muli arg11 c8_i32
  let v16 : BitVec 32 := v15
  let v17 : Index := Scalar.indexCast v16
  let c0_4 : Index := 0#32
  ![v17.toNat, 0]
def k0_off3 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c8_i32 : BitVec 32 := 8#32
  let v15 : BitVec 32 := Scalar.muli arg11 c8_i32
  let v16 : BitVec 32 := v15
  let v60 : Index := Scalar.indexCast v16
  let c0_17 : Index := 0#32
  ![v60.toNat, 0]
def k0_off4 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c8_i32 : BitVec 32 := 8#32
  let v15 : BitVec 32 := Scalar.muli arg11 c8_i32
  let v16 : BitVec 32 := v15
  let v107 : Index := Scalar.indexCast v16
  let c128_38 : Index := 128#32
  ![v107.toNat, 128]
def k0_off5 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c8_i32 : BitVec 32 := 8#32
  let v15 : BitVec 32 := Scalar.muli arg11 c8_i32
  let v16 : BitVec 32 := v15
  let v154 : Index := Scalar.indexCast v16
  let c256_59 : Index := 256#32
  ![v154.toNat, 256]
def k0_off6 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c8_i32 : BitVec 32 := 8#32
  let v15 : BitVec 32 := Scalar.muli arg11 c8_i32
  let v16 : BitVec 32 := v15
  let v201 : Index := Scalar.indexCast v16
  let c384_80 : Index := 384#32
  ![v201.toNat, 384]
def k0_mult3 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_83 : BitVec 32 := 128#32
  let v207 : BitVec 32 := Scalar.muli arg11 c128_i32_83
  v207
def k0_off7 (k0_t2 : Fin k0_t2_loop.trips) (c0_i32_84 : BitVec 32) : Fin 2 → Nat :=
  let c0_i32_1 : BitVec 32 := 0#32
  let c1_i32 : BitVec 32 := 1#32
  let arg11 : BitVec 32 := Scf.iv c0_i32_1 c1_i32 k0_t2
  let c128_i32_83 : BitVec 32 := 128#32
  let v207 : BitVec 32 := Scalar.muli arg11 c128_i32_83
  let v208 : BitVec 32 := v207
  let v209 : BitVec 32 := Scalar.addi v208 c0_i32_84
  let v210 : Index := Scalar.indexCast v209
  let c0_85 : Index := 0#32
  ![v210.toNat, 0]
def k0_mult4 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_101 : BitVec 32 := 128#32
  let v257 : BitVec 32 := Scalar.muli arg11 c128_i32_101
  v257
def k0_mult5 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_120 : BitVec 32 := 128#32
  let v307 : BitVec 32 := Scalar.muli arg11 c128_i32_120
  v307
def k0_mult6 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_138 : BitVec 32 := 128#32
  let v357 : BitVec 32 := Scalar.muli arg11 c128_i32_138
  v357
def k0_mult7 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_156 : BitVec 32 := 128#32
  let v407 : BitVec 32 := Scalar.muli arg11 c128_i32_156
  v407
def k0_mult8 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_173 : BitVec 32 := 128#32
  let v457 : BitVec 32 := Scalar.muli arg11 c128_i32_173
  v457
def k0_mult9 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_191 : BitVec 32 := 128#32
  let v507 : BitVec 32 := Scalar.muli arg11 c128_i32_191
  v507
def k0_mult10 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_208 : BitVec 32 := 128#32
  let v557 : BitVec 32 := Scalar.muli arg11 c128_i32_208
  v557
def k0_mult11 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_226 : BitVec 32 := 128#32
  let v607 : BitVec 32 := Scalar.muli arg11 c128_i32_226
  v607
def k0_mult12 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_243 : BitVec 32 := 128#32
  let v657 : BitVec 32 := Scalar.muli arg11 c128_i32_243
  v657
def k0_mult13 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_261 : BitVec 32 := 128#32
  let v707 : BitVec 32 := Scalar.muli arg11 c128_i32_261
  v707
def k0_mult14 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_278 : BitVec 32 := 128#32
  let v757 : BitVec 32 := Scalar.muli arg11 c128_i32_278
  v757
def k0_mult15 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_296 : BitVec 32 := 128#32
  let v807 : BitVec 32 := Scalar.muli arg11 c128_i32_296
  v807
def k0_mult16 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_313 : BitVec 32 := 128#32
  let v857 : BitVec 32 := Scalar.muli arg11 c128_i32_313
  v857
def k0_mult17 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_331 : BitVec 32 := 128#32
  let v907 : BitVec 32 := Scalar.muli arg11 c128_i32_331
  v907
def k0_mult18 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_348 : BitVec 32 := 128#32
  let v957 : BitVec 32 := Scalar.muli arg11 c128_i32_348
  v957
def k0_mult19 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_366 : BitVec 32 := 128#32
  let v1008 : BitVec 32 := Scalar.muli arg11 c128_i32_366
  v1008
def k0_off8 (k0_t2 : Fin k0_t2_loop.trips) (c0_i32_367 : BitVec 32) : Fin 2 → Nat :=
  let c0_i32_1 : BitVec 32 := 0#32
  let c1_i32 : BitVec 32 := 1#32
  let arg11 : BitVec 32 := Scf.iv c0_i32_1 c1_i32 k0_t2
  let c128_i32_366 : BitVec 32 := 128#32
  let v1008 : BitVec 32 := Scalar.muli arg11 c128_i32_366
  let v1009 : BitVec 32 := v1008
  let v1010 : BitVec 32 := Scalar.addi v1009 c0_i32_367
  let v1011 : Index := Scalar.indexCast v1010
  let c128_368 : Index := 128#32
  ![v1011.toNat, 128]
def k0_mult20 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_385 : BitVec 32 := 128#32
  let v1058 : BitVec 32 := Scalar.muli arg11 c128_i32_385
  v1058
def k0_mult21 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_404 : BitVec 32 := 128#32
  let v1108 : BitVec 32 := Scalar.muli arg11 c128_i32_404
  v1108
def k0_mult22 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_423 : BitVec 32 := 128#32
  let v1158 : BitVec 32 := Scalar.muli arg11 c128_i32_423
  v1158
def k0_mult23 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_442 : BitVec 32 := 128#32
  let v1208 : BitVec 32 := Scalar.muli arg11 c128_i32_442
  v1208
def k0_mult24 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_461 : BitVec 32 := 128#32
  let v1258 : BitVec 32 := Scalar.muli arg11 c128_i32_461
  v1258
def k0_mult25 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_480 : BitVec 32 := 128#32
  let v1308 : BitVec 32 := Scalar.muli arg11 c128_i32_480
  v1308
def k0_mult26 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_499 : BitVec 32 := 128#32
  let v1358 : BitVec 32 := Scalar.muli arg11 c128_i32_499
  v1358
def k0_mult27 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_518 : BitVec 32 := 128#32
  let v1408 : BitVec 32 := Scalar.muli arg11 c128_i32_518
  v1408
def k0_mult28 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_537 : BitVec 32 := 128#32
  let v1458 : BitVec 32 := Scalar.muli arg11 c128_i32_537
  v1458
def k0_mult29 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_556 : BitVec 32 := 128#32
  let v1508 : BitVec 32 := Scalar.muli arg11 c128_i32_556
  v1508
def k0_mult30 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_575 : BitVec 32 := 128#32
  let v1558 : BitVec 32 := Scalar.muli arg11 c128_i32_575
  v1558
def k0_mult31 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_594 : BitVec 32 := 128#32
  let v1608 : BitVec 32 := Scalar.muli arg11 c128_i32_594
  v1608
def k0_mult32 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_613 : BitVec 32 := 128#32
  let v1658 : BitVec 32 := Scalar.muli arg11 c128_i32_613
  v1658
def k0_mult33 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_632 : BitVec 32 := 128#32
  let v1708 : BitVec 32 := Scalar.muli arg11 c128_i32_632
  v1708
def k0_mult34 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_651 : BitVec 32 := 128#32
  let v1758 : BitVec 32 := Scalar.muli arg11 c128_i32_651
  v1758
def k0_mult35 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_670 : BitVec 32 := 128#32
  let v1809 : BitVec 32 := Scalar.muli arg11 c128_i32_670
  v1809
def k0_off9 (k0_t2 : Fin k0_t2_loop.trips) (c0_i32_671 : BitVec 32) : Fin 2 → Nat :=
  let c0_i32_1 : BitVec 32 := 0#32
  let c1_i32 : BitVec 32 := 1#32
  let arg11 : BitVec 32 := Scf.iv c0_i32_1 c1_i32 k0_t2
  let c128_i32_670 : BitVec 32 := 128#32
  let v1809 : BitVec 32 := Scalar.muli arg11 c128_i32_670
  let v1810 : BitVec 32 := v1809
  let v1811 : BitVec 32 := Scalar.addi v1810 c0_i32_671
  let v1812 : Index := Scalar.indexCast v1811
  let c256_672 : Index := 256#32
  ![v1812.toNat, 256]
def k0_mult36 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_689 : BitVec 32 := 128#32
  let v1859 : BitVec 32 := Scalar.muli arg11 c128_i32_689
  v1859
def k0_mult37 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_708 : BitVec 32 := 128#32
  let v1909 : BitVec 32 := Scalar.muli arg11 c128_i32_708
  v1909
def k0_mult38 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_727 : BitVec 32 := 128#32
  let v1959 : BitVec 32 := Scalar.muli arg11 c128_i32_727
  v1959
def k0_mult39 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_746 : BitVec 32 := 128#32
  let v2009 : BitVec 32 := Scalar.muli arg11 c128_i32_746
  v2009
def k0_mult40 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_765 : BitVec 32 := 128#32
  let v2059 : BitVec 32 := Scalar.muli arg11 c128_i32_765
  v2059
def k0_mult41 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_784 : BitVec 32 := 128#32
  let v2109 : BitVec 32 := Scalar.muli arg11 c128_i32_784
  v2109
def k0_mult42 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_803 : BitVec 32 := 128#32
  let v2159 : BitVec 32 := Scalar.muli arg11 c128_i32_803
  v2159
def k0_mult43 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_822 : BitVec 32 := 128#32
  let v2209 : BitVec 32 := Scalar.muli arg11 c128_i32_822
  v2209
def k0_mult44 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_841 : BitVec 32 := 128#32
  let v2259 : BitVec 32 := Scalar.muli arg11 c128_i32_841
  v2259
def k0_mult45 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_860 : BitVec 32 := 128#32
  let v2309 : BitVec 32 := Scalar.muli arg11 c128_i32_860
  v2309
def k0_mult46 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_879 : BitVec 32 := 128#32
  let v2359 : BitVec 32 := Scalar.muli arg11 c128_i32_879
  v2359
def k0_mult47 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_898 : BitVec 32 := 128#32
  let v2409 : BitVec 32 := Scalar.muli arg11 c128_i32_898
  v2409
def k0_mult48 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_917 : BitVec 32 := 128#32
  let v2459 : BitVec 32 := Scalar.muli arg11 c128_i32_917
  v2459
def k0_mult49 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_936 : BitVec 32 := 128#32
  let v2509 : BitVec 32 := Scalar.muli arg11 c128_i32_936
  v2509
def k0_mult50 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_955 : BitVec 32 := 128#32
  let v2559 : BitVec 32 := Scalar.muli arg11 c128_i32_955
  v2559
def k0_mult51 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_974 : BitVec 32 := 128#32
  let v2610 : BitVec 32 := Scalar.muli arg11 c128_i32_974
  v2610
def k0_off10 (k0_t2 : Fin k0_t2_loop.trips) (c0_i32_975 : BitVec 32) : Fin 2 → Nat :=
  let c0_i32_1 : BitVec 32 := 0#32
  let c1_i32 : BitVec 32 := 1#32
  let arg11 : BitVec 32 := Scf.iv c0_i32_1 c1_i32 k0_t2
  let c128_i32_974 : BitVec 32 := 128#32
  let v2610 : BitVec 32 := Scalar.muli arg11 c128_i32_974
  let v2611 : BitVec 32 := v2610
  let v2612 : BitVec 32 := Scalar.addi v2611 c0_i32_975
  let v2613 : Index := Scalar.indexCast v2612
  let c384_976 : Index := 384#32
  ![v2613.toNat, 384]
def k0_mult52 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_993 : BitVec 32 := 128#32
  let v2660 : BitVec 32 := Scalar.muli arg11 c128_i32_993
  v2660
def k0_mult53 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_1012 : BitVec 32 := 128#32
  let v2710 : BitVec 32 := Scalar.muli arg11 c128_i32_1012
  v2710
def k0_mult54 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_1031 : BitVec 32 := 128#32
  let v2760 : BitVec 32 := Scalar.muli arg11 c128_i32_1031
  v2760
def k0_mult55 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_1050 : BitVec 32 := 128#32
  let v2810 : BitVec 32 := Scalar.muli arg11 c128_i32_1050
  v2810
def k0_mult56 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_1069 : BitVec 32 := 128#32
  let v2860 : BitVec 32 := Scalar.muli arg11 c128_i32_1069
  v2860
def k0_mult57 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_1088 : BitVec 32 := 128#32
  let v2910 : BitVec 32 := Scalar.muli arg11 c128_i32_1088
  v2910
def k0_mult58 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_1107 : BitVec 32 := 128#32
  let v2960 : BitVec 32 := Scalar.muli arg11 c128_i32_1107
  v2960
def k0_mult59 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_1126 : BitVec 32 := 128#32
  let v3010 : BitVec 32 := Scalar.muli arg11 c128_i32_1126
  v3010
def k0_mult60 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_1145 : BitVec 32 := 128#32
  let v3060 : BitVec 32 := Scalar.muli arg11 c128_i32_1145
  v3060
def k0_mult61 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_1164 : BitVec 32 := 128#32
  let v3110 : BitVec 32 := Scalar.muli arg11 c128_i32_1164
  v3110
def k0_mult62 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_1183 : BitVec 32 := 128#32
  let v3160 : BitVec 32 := Scalar.muli arg11 c128_i32_1183
  v3160
def k0_mult63 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_1202 : BitVec 32 := 128#32
  let v3210 : BitVec 32 := Scalar.muli arg11 c128_i32_1202
  v3210
def k0_mult64 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_1221 : BitVec 32 := 128#32
  let v3260 : BitVec 32 := Scalar.muli arg11 c128_i32_1221
  v3260
def k0_mult65 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_1240 : BitVec 32 := 128#32
  let v3310 : BitVec 32 := Scalar.muli arg11 c128_i32_1240
  v3310
def k0_mult66 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c128_i32_1259 : BitVec 32 := 128#32
  let v3360 : BitVec 32 := Scalar.muli arg11 c128_i32_1259
  v3360
def k0_mult67 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c1024_i32 : BitVec 32 := 1024#32
  let v3412 : BitVec 32 := Scalar.muli arg11 c1024_i32
  v3412
def k0_off11 (k0_t2 : Fin k0_t2_loop.trips) : Fin 2 → Nat :=
  let c0_1278 : Index := 0#32
  let c0_i32_1 : BitVec 32 := 0#32
  let c1_i32 : BitVec 32 := 1#32
  let arg11 : BitVec 32 := Scf.iv c0_i32_1 c1_i32 k0_t2
  let c1024_i32 : BitVec 32 := 1024#32
  let v3412 : BitVec 32 := Scalar.muli arg11 c1024_i32
  let v3413 : BitVec 32 := v3412
  let v3414 : Index := Scalar.indexCast v3413
  ![0, v3414.toNat]
def k0_mult68 (i : grid0.Coords) : BitVec 32 :=
  let arg0 : BitVec 32 := BitVec.ofNat 32 (i 0).val
  let c512_i32 : BitVec 32 := 512#32
  let v6 : BitVec 32 := Scalar.muli arg0 c512_i32
  v6
def k0_off12 (i : grid0.Coords) : Fin 2 → Nat :=
  let c0 : Index := 0#32
  let arg0 : BitVec 32 := BitVec.ofNat 32 (i 0).val
  let c512_i32 : BitVec 32 := 512#32
  let v6 : BitVec 32 := Scalar.muli arg0 c512_i32
  let v7 : BitVec 32 := v6
  let v8 : Index := Scalar.indexCast v7
  ![0, v8.toNat]
def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S384x1x12288 : Shape := ⟨3, ![384, 1, 12288]⟩
abbrev S1536x4096 : Shape := ⟨2, ![1536, 4096]⟩
abbrev S96x4096 : Shape := ⟨2, ![96, 4096]⟩
abbrev S96x512 : Shape := ⟨2, ![96, 512]⟩
abbrev S8 : Shape := ⟨1, ![8]⟩
abbrev S_ : Shape := ⟨0, ![]⟩
abbrev S96x512x1 : Shape := ⟨3, ![96, 512, 1]⟩
abbrev S1x1x8 : Shape := ⟨3, ![1, 1, 8]⟩
abbrev S96x512x8 : Shape := ⟨3, ![96, 512, 8]⟩
abbrev S1x1536x4096 : Shape := ⟨3, ![1, 1536, 4096]⟩
abbrev S8x1x1 : Shape := ⟨3, ![8, 1, 1]⟩
abbrev S8x1536x4096 : Shape := ⟨3, ![8, 1536, 4096]⟩
abbrev S8x96x16x4096 : Shape := ⟨4, ![8, 96, 16, 4096]⟩
abbrev S1x96x1x4096 : Shape := ⟨4, ![1, 96, 1, 4096]⟩
abbrev S12288x4096 : Shape := ⟨2, ![12288, 4096]⟩
abbrev S384x1x1536x8 : Shape := ⟨4, ![384, 1, 1536, 8]⟩
abbrev S384x1x8x1536 : Shape := ⟨4, ![384, 1, 8, 1536]⟩
abbrev S384x1x4096 : Shape := ⟨3, ![384, 1, 4096]⟩
abbrev S384x1 : Shape := ⟨2, ![384, 1]⟩
abbrev S384x1x1 : Shape := ⟨3, ![384, 1, 1]⟩

abbrev nBuf : Space → Nat
  | .hbm => 85
  | .vmem => 2
  | .smem => 0
  | _ => 0

abbrev bufTy : (tb : Table) → Fin (tcTables nBuf tb) → BufTy
  | .hbm, ⟨0, _⟩ => ⟨S384x1x12288, .bf16⟩
  | .hbm, ⟨1, _⟩ => ⟨S1536x4096, .i32⟩
  | .hbm, ⟨2, _⟩ => ⟨S96x4096, .bf16⟩
  | .hbm, ⟨3, _⟩ => ⟨S96x512, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S96x512x1, .i32⟩
  | .hbm, ⟨9, _⟩ => ⟨S1x1x8, .i32⟩
  | .hbm, ⟨10, _⟩ => ⟨S96x512x8, .i32⟩
  | .hbm, ⟨11, _⟩ => ⟨S96x512x8, .i32⟩
  | .hbm, ⟨12, _⟩ => ⟨S96x512x8, .i32⟩
  | .hbm, ⟨13, _⟩ => ⟨S_, .i32⟩
  | .hbm, ⟨14, _⟩ => ⟨S96x512x8, .i32⟩
  | .hbm, ⟨15, _⟩ => ⟨S96x512x8, .i32⟩
  | .hbm, ⟨16, _⟩ => ⟨S96x4096, .i32⟩
  | .hbm, ⟨17, _⟩ => ⟨S96x4096, .bf16⟩
  | .hbm, ⟨18, _⟩ => ⟨S1x1536x4096, .i32⟩
  | .hbm, ⟨19, _⟩ => ⟨S8x1x1, .i32⟩
  | .hbm, ⟨20, _⟩ => ⟨S8x1536x4096, .i32⟩
  | .hbm, ⟨21, _⟩ => ⟨S8x1536x4096, .i32⟩
  | .hbm, ⟨22, _⟩ => ⟨S8x1536x4096, .i32⟩
  | .hbm, ⟨23, _⟩ => ⟨S_, .i32⟩
  | .hbm, ⟨24, _⟩ => ⟨S8x1536x4096, .i32⟩
  | .hbm, ⟨25, _⟩ => ⟨S8x1536x4096, .i32⟩
  | .hbm, ⟨26, _⟩ => ⟨S8x1536x4096, .bf16⟩
  | .hbm, ⟨27, _⟩ => ⟨S8x96x16x4096, .bf16⟩
  | .hbm, ⟨28, _⟩ => ⟨S1x96x1x4096, .bf16⟩
  | .hbm, ⟨29, _⟩ => ⟨S8x96x16x4096, .bf16⟩
  | .hbm, ⟨30, _⟩ => ⟨S8x96x16x4096, .bf16⟩
  | .hbm, ⟨31, _⟩ => ⟨S1x96x1x4096, .bf16⟩
  | .hbm, ⟨32, _⟩ => ⟨S8x96x16x4096, .bf16⟩
  | .hbm, ⟨33, _⟩ => ⟨S8x96x16x4096, .bf16⟩
  | .hbm, ⟨34, _⟩ => ⟨S12288x4096, .bf16⟩
  | .hbm, ⟨35, _⟩ => ⟨S384x1x1536x8, .bf16⟩
  | .hbm, ⟨36, _⟩ => ⟨S384x1x8x1536, .bf16⟩
  | .hbm, ⟨37, _⟩ => ⟨S384x1x12288, .bf16⟩
  | .hbm, ⟨38, _⟩ => ⟨S384x1x4096, .f32⟩
  | .hbm, ⟨39, _⟩ => ⟨S384x1x4096, .f32⟩
  | .hbm, ⟨40, _⟩ => ⟨S_, .f32⟩
  | .hbm, ⟨41, _⟩ => ⟨S384x1, .f32⟩
  | .hbm, ⟨42, _⟩ => ⟨S_, .f32⟩
  | .hbm, ⟨43, _⟩ => ⟨S384x1, .f32⟩
  | .hbm, ⟨44, _⟩ => ⟨S384x1, .f32⟩
  | .hbm, ⟨45, _⟩ => ⟨S_, .f32⟩
  | .hbm, ⟨46, _⟩ => ⟨S384x1, .f32⟩
  | .hbm, ⟨47, _⟩ => ⟨S384x1, .i1⟩
  | .hbm, ⟨48, _⟩ => ⟨S_, .f32⟩
  | .hbm, ⟨49, _⟩ => ⟨S384x1, .f32⟩
  | .hbm, ⟨50, _⟩ => ⟨S384x1, .i1⟩
  | .hbm, ⟨51, _⟩ => ⟨S384x1, .i1⟩
  | .hbm, ⟨52, _⟩ => ⟨S384x1, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S384x1, .f32⟩
  | .hbm, ⟨57, _⟩ => ⟨S384x1, .f32⟩
  | .hbm, ⟨58, _⟩ => ⟨S384x1, .f32⟩
  | .hbm, ⟨59, _⟩ => ⟨S_, .f32⟩
  | .hbm, ⟨60, _⟩ => ⟨S384x1, .f32⟩
  | .hbm, ⟨61, _⟩ => ⟨S384x1, .f32⟩
  | .hbm, ⟨62, _⟩ => ⟨S_, .f32⟩
  | .hbm, ⟨63, _⟩ => ⟨S_, .f32⟩
  | .hbm, ⟨64, _⟩ => ⟨S384x1, .f32⟩
  | .hbm, ⟨65, _⟩ => ⟨S384x1, .f32⟩
  | .hbm, ⟨66, _⟩ => ⟨S_, .f32⟩
  | .hbm, ⟨67, _⟩ => ⟨S384x1, .f32⟩
  | .hbm, ⟨68, _⟩ => ⟨S384x1, .f32⟩
  | .hbm, ⟨69, _⟩ => ⟨S384x1, .f32⟩
  | .hbm, ⟨70, _⟩ => ⟨S_, .f32⟩
  | .hbm, ⟨71, _⟩ => ⟨S384x1, .f32⟩
  | .hbm, ⟨72, _⟩ => ⟨S384x1, .f32⟩
  | .hbm, ⟨73, _⟩ => ⟨S384x1x1, .f32⟩
  | .hbm, ⟨74, _⟩ => ⟨S384x1x4096, .f32⟩
  | .hbm, ⟨75, _⟩ => ⟨S384x1x4096, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S384x1x4096, .f32⟩
  | .hbm, ⟨80, _⟩ => ⟨S384x1x4096, .f32⟩
  | .hbm, ⟨81, _⟩ => ⟨S_, .f32⟩
  | .hbm, ⟨82, _⟩ => ⟨S384x1x4096, .f32⟩
  | .hbm, ⟨83, _⟩ => ⟨S384x1x4096, .f32⟩
  | .hbm, ⟨84, _⟩ => ⟨S384x1x4096, .fp8e4m3⟩
  | .local _ .vmem, ⟨0, _⟩ => ⟨S384x1x4096, .f32⟩
  | .local _ .vmem, ⟨1, _⟩ => ⟨S384x1x4096, .fp8e4m3⟩
  | _, _ => ⟨S384x1x12288, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_call0_v0 : Ref sig .tc := ⟨.hbm, 63, rfl⟩
abbrev main_call0_v1 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_cst_11 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_v58 : Ref sig .tc := ⟨.hbm, 83, rfl⟩
abbrev main_v59 : Ref sig .tc := ⟨.hbm, 84, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S384x1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x1x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Body.lean ====
/-
  The kernel body run at one grid point, for any floats.

  The body branches on the grid coordinate twice: at the first point it permutes `x` into scratch, at the last it
  quantises the accumulated rows and stores both results. So there are three runs: the first point, a middle point, the
  last point. Each is stated from ANY contents of the buffers the body writes; what the run writes are the lists of
  pieces it finds.
-/
module

public import proofs.«01_k».proof.Proof.Gen.Kernel.Frame
public import proofs.«01_k».proof.Proof.Gen.Kernel.Loops

@[expose] public section

set_option maxRecDepth 16384

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

/-- No variant: no loop of the program is unbounded. -/
abbrev 𝒱₀ : Variants := Variants.none

section Runs

variable (c : Dev nD) (i : grid0.Coords)
  (arg1 : Memref sig .tc .vmem S384x12288 .bf16) (harg1 : arg1.IsWhole) (arg2 : Memref sig .tc .vmem S1536x512 .i32) (harg2 : arg2.IsWhole)
  (arg3 : Memref sig .tc .vmem S96x512 .bf16) (harg3 : arg3.IsWhole) (arg4 : Memref sig .tc .vmem S96x128 .i32) (harg4 : arg4.IsWhole)
  (arg5 : Memref sig .tc .vmem S384x4096 .fp8e4m3) (harg5 : arg5.IsWhole) (arg6 : Memref sig .tc .vmem S1x384 .f32) (harg6 : arg6.IsWhole)
  (arg7 : Memref sig .tc .vmem S384x12288 .bf16) (harg7 : arg7.IsWhole) (arg8 : Memref sig .tc .vmem S384x4096 .f32) (harg8 : arg8.IsWhole)
  (arg9 : Memref sig .tc .vmem S8x512 .i32) (harg9 : arg9.IsWhole) (arg10 : Memref sig .tc .vmem S8x512 .f32) (harg10 : arg10.IsWhole)
  (f1 : BufTy.Contents (Elt F) arg1.view.ty) (f2 : BufTy.Contents (Elt F) arg2.view.ty) (f3 : BufTy.Contents (Elt F) arg3.view.ty)
  (f4 : BufTy.Contents (Elt F) arg4.view.ty) (f5 : BufTy.Contents (Elt F) arg5.view.ty) (f6 : BufTy.Contents (Elt F) arg6.view.ty)
  (f7 : BufTy.Contents (Elt F) arg7.view.ty) (f8 : BufTy.Contents (Elt F) arg8.view.ty) (f9 : BufTy.Contents (Elt F) arg9.view.ty)
  (f10 : BufTy.Contents (Elt F) arg10.view.ty)

/-- A memref's buffer held whole at the contents `f`. -/
abbrev Held {s : Shape} {e : EltTy} (M : Memref sig .tc .vmem s e) (f : BufTy.Contents (Elt F) M.view.ty) : sProp 𝕄 :=
  M.view.loc (c : Thread nD τ) ↦[M.view.set]{fullShare} f

/-- The body at the point `i` on these memrefs. -/
abbrev bodyOn : Prog (TpuEff nD τ sig (Elt F) Λ₀ .tc) PUnit :=
  cc0_gptq_int4_linear (F := F) i arg1 harg1 arg2 harg2 arg3 harg3 arg4 harg4 arg5 harg5 arg6 harg6 arg7 harg7 arg8 harg8 arg9 harg9 arg10 harg10

/-- The FIRST point: `x` is permuted into scratch, then the point's columns are accumulated; the results' buffers stay as
    they were. -/
def runA (hc1 : k0_cond1 i = 1#1) (hc2 : ¬ k0_cond2 i = 1#1) :
    Σ' (L7 : List (View.Piece (Elt F) S384x12288 .bf16)) (L8 : List (View.Piece (Elt F) S384x4096 .f32)) (L9 : List (View.Piece (Elt F) S8x512 .i32)),
    { L10 : List (View.Piece (Elt F) S8x512 .f32) // ∀ (E : Set ℕ) (K : PUnit → sProp 𝕄),
      iprop(Held c arg1 f1 ∗ Held c arg2 f2 ∗ Held c arg3 f3 ∗ Held c arg4 f4 ∗ Held c arg7 f7 ∗ Held c arg8 f8 ∗ Held c arg9 f9 ∗ Held c arg10 f10
          ∗ (iprop(Held c arg1 f1 ∗ Held c arg2 f2 ∗ Held c arg3 f3 ∗ Held c arg4 f4 ∗ Held c arg7 (arg7.view.writes (Elt F) f7 L7) ∗ Held c arg8 (arg8.view.writes (Elt F) f8 L8) ∗ Held c arg9 (arg9.view.writes (Elt F) f9 L9) ∗ Held c arg10 (arg10.view.writes (Elt F) f10 L10)) -∗ K ⟨⟩))
        ⊢ wp frame (wpE (defs₀ (F := F)) 𝒱₀ (c : Thread nD τ) none) E
            (bodyOn (F := F) i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    unfold bodyOn Held
    simp only [cc0_gptq_int4_linear_eq_skeleton]; unfold cc0_gptq_int4_linear_skel
    iintro ⟨H1, H2, H3, H4, H7, H8, H9, H10, Hk⟩
    sl_exec (disch := first | sl_exact hc1 | sl_exact hc2)
    sl_step
    iapply Hk
    sl_close

/-- A MIDDLE point: neither branch is taken. The accumulator's columns of the point are written; the permuted `x` and the
    results' buffers stay as they were. -/
def runB (hc1 : ¬ k0_cond1 i = 1#1) (hc2 : ¬ k0_cond2 i = 1#1) :
    Σ' (L8 : List (View.Piece (Elt F) S384x4096 .f32)) (L9 : List (View.Piece (Elt F) S8x512 .i32)),
    { L10 : List (View.Piece (Elt F) S8x512 .f32) // ∀ (E : Set ℕ) (K : PUnit → sProp 𝕄),
      iprop(Held c arg2 f2 ∗ Held c arg3 f3 ∗ Held c arg4 f4 ∗ Held c arg7 f7 ∗ Held c arg8 f8 ∗ Held c arg9 f9 ∗ Held c arg10 f10
          ∗ (iprop(Held c arg2 f2 ∗ Held c arg3 f3 ∗ Held c arg4 f4 ∗ Held c arg7 f7 ∗ Held c arg8 (arg8.view.writes (Elt F) f8 L8) ∗ Held c arg9 (arg9.view.writes (Elt F) f9 L9) ∗ Held c arg10 (arg10.view.writes (Elt F) f10 L10)) -∗ K ⟨⟩))
        ⊢ wp frame (wpE (defs₀ (F := F)) 𝒱₀ (c : Thread nD τ) none) E
            (bodyOn (F := F) i arg1 harg1 arg2 harg2 arg3 harg3 arg4 harg4 arg5 harg5 arg6 harg6 arg7 harg7 arg8 harg8 arg9 harg9 arg10 harg10) K } := by
  refine ⟨?_, ?_, ?_, fun E K => ?run⟩
  case run =>
    unfold bodyOn Held
    simp only [cc0_gptq_int4_linear_eq_skeleton]; unfold cc0_gptq_int4_linear_skel
    iintro ⟨H2, H3, H4, H7, H8, H9, H10, Hk⟩
    sl_exec (disch := first | sl_exact hc1 | sl_exact hc2)
    sl_step
    iapply Hk
    sl_close

/-- The LAST point: after the point's columns, the rows are quantised and both results are stored. -/
def runC (hc1 : ¬ k0_cond1 i = 1#1) (hc2 : k0_cond2 i = 1#1) :
    Σ' (L5 : List (View.Piece (Elt F) S384x4096 .fp8e4m3)) (L6 : List (View.Piece (Elt F) S1x384 .f32)) (L8 : List (View.Piece (Elt F) S384x4096 .f32)) (L9 : List (View.Piece (Elt F) S8x512 .i32)),
    { L10 : List (View.Piece (Elt F) S8x512 .f32) // ∀ (E : Set ℕ) (K : PUnit → sProp 𝕄),
      iprop(Held c arg2 f2 ∗ Held c arg3 f3 ∗ Held c arg4 f4 ∗ Held c arg5 f5 ∗ Held c arg6 f6 ∗ Held c arg7 f7 ∗ Held c arg8 f8 ∗ Held c arg9 f9 ∗ Held c arg10 f10
          ∗ (iprop(Held c arg2 f2 ∗ Held c arg3 f3 ∗ Held c arg4 f4 ∗ Held c arg5 (arg5.view.writes (Elt F) f5 L5) ∗ Held c arg6 (arg6.view.writes (Elt F) f6 L6) ∗ Held c arg7 f7 ∗ Held c arg8 (arg8.view.writes (Elt F) f8 L8) ∗ Held c arg9 (arg9.view.writes (Elt F) f9 L9) ∗ Held c arg10 (arg10.view.writes (Elt F) f10 L10)) -∗ K ⟨⟩))
        ⊢ wp frame (wpE (defs₀ (F := F)) 𝒱₀ (c : Thread nD τ) none) E
            (bodyOn (F := F) i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    unfold bodyOn Held
    simp only [cc0_gptq_int4_linear_eq_skeleton]; unfold cc0_gptq_int4_linear_skel
    iintro ⟨H2, H3, H4, H5, H6, H7, H8, H9, H10, Hk⟩
    sl_exec (disch := first | sl_exact hc1 | sl_exact hc2)
    sl_step
    iapply Hk
    sl_close

end Runs

end Cert.Proof.Kernel

end
-- ==== Proof.Kernel.Frame.lean ====
/-
  The frame: from any memory with zero counters the program runs to its end, leaves its four argument arrays unchanged
  and every semaphore counter at zero.

  What the results hold is stated nowhere here (both result windows are forgotten); the kernel's scratch is held at some
  contents throughout.
-/
module

public import proofs.«01_k».proof.Proof.Kernel.Body

@[expose] public section

set_option maxRecDepth 16384

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

/-- The pipeline's body at a grid point is the printed body on the point's staging memrefs. -/
theorem defs₀_row (t : Fin cfg0.N) : defs₀ (F := F) .tc cfg0.body (cfg0.bodyArgs t (cfg0.slots t)) = bodyAt0 (F := F) t := by
  unfold defs₀; rw [Defs.onTc_tc]

/-- A scratch buffer held whole, in the two spellings. -/
theorem held_whole (c : Dev nD) (b : Ref sig .tc) (f : Buf (Elt F) ((c : Thread nD τ).loc b)) :
    ((Memref.whole b).view.loc (c : Thread nD τ) ↦[(Memref.whole b).view.set]{fullShare} f : sProp 𝕄)
      = (((c : Thread nD τ).loc b) ↦{fullShare} f) := by
  exact congrArg (fun S => (((c : Thread nD τ).loc b) ↦[S]{fullShare} f : sProp 𝕄)) (View.set_whole b)

/-- The two result windows, whose contents the frame says nothing of. -/
def fgt : Fin cfg0.W → Bool := fun w => (cfg0.win w).isOut

/-- The proof data of the frame: the inputs' blocks stay, the results' contents are forgotten, the scratch is held at
    some contents. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.ofNonempty
    | ⟨5, _⟩ => fun _ => Classical.ofNonempty
  Φ _ := Pipeline.ΦA spec0 c
  q _ := fullShare
  owed _ := 0

/-- Each input's staging buffer holds its block when the body runs. -/
theorem beforeF_0 (c : Dev nD) (t : Fin cfg0.N) (d) : (datsF m 0 c).before 0 t d = iblk m c 0 t :=
  before0_0_of m (datsF m 0 c) rfl (fun _ => rfl) t d
/-- The same of input window 1. -/
theorem beforeF_1 (c : Dev nD) (t : Fin cfg0.N) (d) : (datsF m 0 c).before 1 t d = iblk m c 1 t :=
  before0_1_of m (datsF m 0 c) rfl (fun _ => rfl) t d
/-- The same of input window 2. -/
theorem beforeF_2 (c : Dev nD) (t : Fin cfg0.N) (d) : (datsF m 0 c).before 2 t d = iblk m c 2 t :=
  before0_2_of m (datsF m 0 c) rfl (fun _ => rfl) t d
/-- The same of input window 3. -/
theorem beforeF_3 (c : Dev nD) (t : Fin cfg0.N) (d) : (datsF m 0 c).before 3 t d = iblk m c 3 t :=
  before0_3_of m (datsF m 0 c) rfl (fun _ => rfl) t d

set_option maxHeartbeats 1000000 in
/-- The body obligation: at every point the body runs from any scratch and any contents of the results' buffers. -/
theorem body_obligationF (c : Dev nD) : BodyObligation (datsF (F := F) m 0 c) (defs₀ (F := F)) 𝒱₀ () Set.univ fgt := fun t => by
  rw [bigSep_W0, bigSep_W0, defs₀_row]
  show iprop(Pipeline.ΦA spec0 c ∗ (datsF m 0 c).owesAt () t.castSucc
      ∗ (∃ d, owns (c : Thread nD τ) (st0_0 t) fullShare ((datsF m 0 c).before 0 t d))
      ∗ (∃ d, owns (c : Thread nD τ) (st0_1 t) fullShare ((datsF m 0 c).before 1 t d))
      ∗ (∃ d, owns (c : Thread nD τ) (st0_2 t) fullShare ((datsF m 0 c).before 2 t d))
      ∗ (∃ d, owns (c : Thread nD τ) (st0_3 t) fullShare ((datsF m 0 c).before 3 t d))
      ∗ (∃ X, owns (c : Thread nD τ) (st0_4 t) fullShare X) ∗ (∃ X, owns (c : Thread nD τ) (st0_5 t) fullShare X))
    ⊢ wp frame (wpE (defs₀ (F := F)) 𝒱₀ (c : Thread nD τ) none) Set.univ (bodyAt0 (F := F) t) fun _ =>
      iprop(Pipeline.ΦA spec0 c ∗ (datsF m 0 c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ (∃ X, owns (c : Thread nD τ) (st0_4 t) fullShare X) ∗ (∃ X, owns (c : Thread nD τ) (st0_5 t) fullShare X))
  simp only [beforeF_0, beforeF_1, beforeF_2, beforeF_3]
  unfold ΦA owns Dat.owesAt Pipeline.owesWithin
  rw [scopedRest0_eq]
  simp only [← held_whole]
  iintro ⟨⟨⟨⟨%f7, H7⟩, ⟨%f8, H8⟩, ⟨%f9, H9⟩, ⟨%f10, H10⟩⟩, ⟨%r, Hr⟩⟩, ⟨%o, %ho, Ho⟩, ⟨%d0, %f1, %hf1, H1⟩, ⟨%d1, %f2, %hf2, H2⟩, ⟨%d2, %f3, %hf3, H3⟩,
    ⟨%d3, %f4, %hf4, H4⟩, ⟨%x5, %f5, -, H5⟩, ⟨%x6, %f6, -, H6⟩⟩
  by_cases hc1 : k0_cond1 (grid0.coords t) = 1#1 <;> by_cases hc2 : k0_cond2 (grid0.coords t) = 1#1
  · exact absurd hc2 ((by decide : ∀ i : grid0.Coords, k0_cond1 i = 1#1 → ¬ k0_cond2 i = 1#1) _ hc1)
  · iapply ((runA c (grid0.coords t) _ _ _ _ _ _ _ _ _ _ _ _ _ _ _ _ _ _ _ _ f1 f2 f3 f4 f7 f8 f9 f10 hc1 hc2).2.2.2.2 Set.univ _)
    isplitl [H1]; · iexact H1
    isplitl [H2]; · iexact H2
    isplitl [H3]; · iexact H3
    isplitl [H4]; · iexact H4
    isplitl [H7]; · iexact H7
    isplitl [H8]; · iexact H8
    isplitl [H9]; · iexact H9
    isplitl [H10]; · iexact H10
    iintro ⟨H1, H2, H3, H4, H7, H8, H9, H10⟩
    sl_close
  · iapply ((runC c (grid0.coords t) _ _ _ _ _ _ _ _ _ _ _ _ _ _ _ _ _ _ _ _ f2 f3 f4 f5 f6 f7 f8 f9 f10 hc1 hc2).2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H2, H3, H4, H5, H6, H7, H8, H9, H10⟩
    sl_close
  · iapply ((runB c (grid0.coords t) _ _ _ _ _ _ _ _ _ _ _ _ _ _ _ _ _ _ _ _ f2 f3 f4 f7 f8 f9 f10 hc1 hc2).2.2.2 Set.univ _)
    isplitl [H2]; · iexact H2
    isplitl [H3]; · iexact H3
    isplitl [H4]; · iexact H4
    isplitl [H7]; · iexact H7
    isplitl [H8]; · iexact H8
    isplitl [H9]; · iexact H9
    isplitl [H10]; · iexact H10
    iintro ⟨H2, H3, H4, H7, H8, H9, H10⟩
    sl_close

/-! ## The launch -/

/-- The host lines after the region write only the two results. -/
theorem sfx_writes : ∀ ops ∈ ([hostOps1] : List (List (HloOp τ sig (Elt F)))), ∀ op ∈ ops, ∀ b : Ref sig .tc,
    Proc.devRef .tc b ∈ op.writes → b ∈ ({main_v2, main_v3} : Finset (Ref sig .tc)) := by
  intro ops hops op hop b
  simp only [List.mem_cons, List.mem_nil_iff, or_false] at hops
  rcases hops with rfl
  simp only [hostOps1, List.mem_cons, List.mem_nil_iff, or_false] at hop
  rcases hop with rfl | rfl <;> rw [StableHlo.reshape_writes, Finset.mem_singleton] <;> intro hb
  · simp [Proc.devRef_injective _ hb]
  · simp [Proc.devRef_injective _ hb]

set_option backward.isDefEq.respectTransparency.types false in
/-- **The frame run**: every launch from zero counters ends with every input array as the region found it, every buffer
    no line writes unchanged, and the counters at zero. -/
theorem run_mainF : θ_run defs (onTc (τ := τ) (main (F := F))) (s₀ m ρ) (fun r =>
    Pipeline.RDat.FramePostR cfg0 (fun c => (datsF m 0 c).toRForget fgt) {main_v2, main_v3} (fun c b => V0 m c (Proc.devRef .tc b)) r
      ∧ r.2.sem = fun _ => 0) :=
  Pipeline.θ_run_frame_around_T_forget cfgs (datsF m) 0 launch0 defs₀ 𝒱₀ fgt {main_v2, main_v3} m ρ main
    (hbody := fun c => (body_obligationF m c).loose) (hshare := fun c => (datsF m 0 c).share_full fun _ => rfl) (howed := fun _ _ => rfl)
    (V₀ := V0 m) (opss := [hostOps1]) (hsub := sfx_sub) (hfresh := sfx_fresh) (hkeep := sfx_keeps)
    (hT := sfx_writes) (hmain := hmain m 𝒱₀) (hA := fun _ _ => rfl) (hΦ := fun _ _ => rfl)
    (Q' := _) (hQ' := fun _ h => h)

/-- **The frame**: the four argument arrays end as they started, every counter at zero. -/
theorem run_frame : θ_run defs (onTc (τ := τ) (main (F := F))) ⟨m, fun _ => 0, ρ⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨
      ((h.1 c).2 main_arg0 (Finset.mem_sdiff.mpr ⟨Pipeline.mem_restRefs_of main_arg0 (by decide) (by decide), by decide⟩)).trans (V_main_arg0 m c),
      (Pipeline.RDat.FramePostR.arr_in h.1 c 1 rfl).trans (V_main_arg1 m c),
      (Pipeline.RDat.FramePostR.arr_in h.1 c 2 rfl).trans (V_main_arg2 m c),
      (Pipeline.RDat.FramePostR.arr_in h.1 c 3 rfl).trans (V_main_arg3 m c)⟩, h.2⟩) (run_mainF m ρ)

end Cert.Proof.Kernel

end
-- ==== Proof.KernelIdeal.Body.lean ====
/-
  The kernel body run at one grid point, for any floats.

  The body branches on the grid coordinate twice: at the first point it permutes `x` into scratch, at the last it
  quantises the accumulated rows and stores both results. So there are three runs: the first point, a middle point, the
  last point. Each is stated from ANY contents of the buffers the body writes; what the run writes are the lists of
  pieces it finds.
-/
module

public import proofs.«01_k».proof.Proof.Gen.KernelIdeal.Frame
public import proofs.«01_k».proof.Proof.Gen.KernelIdeal.Loops

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

/-- No variant: no loop of the program is unbounded. -/
abbrev 𝒱₀ : Variants := Variants.none

section Runs

variable (c : Dev nD) (i : grid0.Coords)
  (arg1 : Memref sig .tc .vmem S384x12288 .bf16) (harg1 : arg1.IsWhole) (arg2 : Memref sig .tc .vmem S1536x512 .i32) (harg2 : arg2.IsWhole)
  (arg3 : Memref sig .tc .vmem S96x512 .bf16) (harg3 : arg3.IsWhole) (arg4 : Memref sig .tc .vmem S96x128 .i32) (harg4 : arg4.IsWhole)
  (arg5 : Memref sig .tc .vmem S384x4096 .fp8e4m3) (harg5 : arg5.IsWhole) (arg6 : Memref sig .tc .vmem S1x384 .f32) (harg6 : arg6.IsWhole)
  (arg7 : Memref sig .tc .vmem S384x12288 .bf16) (harg7 : arg7.IsWhole) (arg8 : Memref sig .tc .vmem S384x4096 .f32) (harg8 : arg8.IsWhole)
  (arg9 : Memref sig .tc .vmem S8x512 .i32) (harg9 : arg9.IsWhole) (arg10 : Memref sig .tc .vmem S8x512 .f32) (harg10 : arg10.IsWhole)
  (f1 : BufTy.Contents (Elt F) arg1.view.ty) (f2 : BufTy.Contents (Elt F) arg2.view.ty) (f3 : BufTy.Contents (Elt F) arg3.view.ty)
  (f4 : BufTy.Contents (Elt F) arg4.view.ty) (f5 : BufTy.Contents (Elt F) arg5.view.ty) (f6 : BufTy.Contents (Elt F) arg6.view.ty)
  (f7 : BufTy.Contents (Elt F) arg7.view.ty) (f8 : BufTy.Contents (Elt F) arg8.view.ty) (f9 : BufTy.Contents (Elt F) arg9.view.ty)
  (f10 : BufTy.Contents (Elt F) arg10.view.ty)

/-- A memref's buffer held whole at the contents `f`. -/
abbrev Held {s : Shape} {e : EltTy} (M : Memref sig .tc .vmem s e) (f : BufTy.Contents (Elt F) M.view.ty) : sProp 𝕄 :=
  M.view.loc (c : Thread nD τ) ↦[M.view.set]{fullShare} f

/-- The body at the point `i` on these memrefs. -/
abbrev bodyOn : Prog (TpuEff nD τ sig (Elt F) Λ₀ .tc) PUnit :=
  cc0_gptq_int4_linear (F := F) i arg1 harg1 arg2 harg2 arg3 harg3 arg4 harg4 arg5 harg5 arg6 harg6 arg7 harg7 arg8 harg8 arg9 harg9 arg10 harg10

/-- The FIRST point: `x` is permuted into scratch, then the point's columns are accumulated; the results' buffers stay as
    they were. -/
def runA (hc1 : k0_cond1 i = 1#1) (hc2 : ¬ k0_cond2 i = 1#1) :
    Σ' (L7 : List (View.Piece (Elt F) S384x12288 .bf16)) (L8 : List (View.Piece (Elt F) S384x4096 .f32)) (L9 : List (View.Piece (Elt F) S8x512 .i32)),
    { L10 : List (View.Piece (Elt F) S8x512 .f32) // ∀ (E : Set ℕ) (K : PUnit → sProp 𝕄),
      iprop(Held c arg1 f1 ∗ Held c arg2 f2 ∗ Held c arg3 f3 ∗ Held c arg4 f4 ∗ Held c arg7 f7 ∗ Held c arg8 f8 ∗ Held c arg9 f9 ∗ Held c arg10 f10
          ∗ (iprop(Held c arg1 f1 ∗ Held c arg2 f2 ∗ Held c arg3 f3 ∗ Held c arg4 f4 ∗ Held c arg7 (arg7.view.writes (Elt F) f7 L7) ∗ Held c arg8 (arg8.view.writes (Elt F) f8 L8) ∗ Held c arg9 (arg9.view.writes (Elt F) f9 L9) ∗ Held c arg10 (arg10.view.writes (Elt F) f10 L10)) -∗ K ⟨⟩))
        ⊢ wp frame (wpE (defs₀ (F := F)) 𝒱₀ (c : Thread nD τ) none) E
            (bodyOn (F := F) i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    unfold bodyOn Held
    simp only [cc0_gptq_int4_linear_eq_skeleton]; unfold cc0_gptq_int4_linear_skel
    iintro ⟨H1, H2, H3, H4, H7, H8, H9, H10, Hk⟩
    sl_exec (disch := first | sl_exact hc1 | sl_exact hc2)
    sl_step
    iapply Hk
    sl_close

/-- A MIDDLE point: neither branch is taken. The accumulator's columns of the point are written; the permuted `x` and the
    results' buffers stay as they were. -/
def runB (hc1 : ¬ k0_cond1 i = 1#1) (hc2 : ¬ k0_cond2 i = 1#1) :
    Σ' (L8 : List (View.Piece (Elt F) S384x4096 .f32)) (L9 : List (View.Piece (Elt F) S8x512 .i32)),
    { L10 : List (View.Piece (Elt F) S8x512 .f32) // ∀ (E : Set ℕ) (K : PUnit → sProp 𝕄),
      iprop(Held c arg2 f2 ∗ Held c arg3 f3 ∗ Held c arg4 f4 ∗ Held c arg7 f7 ∗ Held c arg8 f8 ∗ Held c arg9 f9 ∗ Held c arg10 f10
          ∗ (iprop(Held c arg2 f2 ∗ Held c arg3 f3 ∗ Held c arg4 f4 ∗ Held c arg7 f7 ∗ Held c arg8 (arg8.view.writes (Elt F) f8 L8) ∗ Held c arg9 (arg9.view.writes (Elt F) f9 L9) ∗ Held c arg10 (arg10.view.writes (Elt F) f10 L10)) -∗ K ⟨⟩))
        ⊢ wp frame (wpE (defs₀ (F := F)) 𝒱₀ (c : Thread nD τ) none) E
            (bodyOn (F := F) i arg1 harg1 arg2 harg2 arg3 harg3 arg4 harg4 arg5 harg5 arg6 harg6 arg7 harg7 arg8 harg8 arg9 harg9 arg10 harg10) K } := by
  refine ⟨?_, ?_, ?_, fun E K => ?run⟩
  case run =>
    unfold bodyOn Held
    simp only [cc0_gptq_int4_linear_eq_skeleton]; unfold cc0_gptq_int4_linear_skel
    iintro ⟨H2, H3, H4, H7, H8, H9, H10, Hk⟩
    sl_exec (disch := first | sl_exact hc1 | sl_exact hc2)
    sl_step
    iapply Hk
    sl_close

/-- The LAST point: after the point's columns, the rows are quantised and both results are stored. -/
def runC (hc1 : ¬ k0_cond1 i = 1#1) (hc2 : k0_cond2 i = 1#1) :
    Σ' (L5 : List (View.Piece (Elt F) S384x4096 .fp8e4m3)) (L6 : List (View.Piece (Elt F) S1x384 .f32)) (L8 : List (View.Piece (Elt F) S384x4096 .f32)) (L9 : List (View.Piece (Elt F) S8x512 .i32)),
    { L10 : List (View.Piece (Elt F) S8x512 .f32) // ∀ (E : Set ℕ) (K : PUnit → sProp 𝕄),
      iprop(Held c arg2 f2 ∗ Held c arg3 f3 ∗ Held c arg4 f4 ∗ Held c arg5 f5 ∗ Held c arg6 f6 ∗ Held c arg7 f7 ∗ Held c arg8 f8 ∗ Held c arg9 f9 ∗ Held c arg10 f10
          ∗ (iprop(Held c arg2 f2 ∗ Held c arg3 f3 ∗ Held c arg4 f4 ∗ Held c arg5 (arg5.view.writes (Elt F) f5 L5) ∗ Held c arg6 (arg6.view.writes (Elt F) f6 L6) ∗ Held c arg7 f7 ∗ Held c arg8 (arg8.view.writes (Elt F) f8 L8) ∗ Held c arg9 (arg9.view.writes (Elt F) f9 L9) ∗ Held c arg10 (arg10.view.writes (Elt F) f10 L10)) -∗ K ⟨⟩))
        ⊢ wp frame (wpE (defs₀ (F := F)) 𝒱₀ (c : Thread nD τ) none) E
            (bodyOn (F := F) i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    unfold bodyOn Held
    simp only [cc0_gptq_int4_linear_eq_skeleton]; unfold cc0_gptq_int4_linear_skel
    iintro ⟨H2, H3, H4, H5, H6, H7, H8, H9, H10, Hk⟩
    sl_exec (disch := first | sl_exact hc1 | sl_exact hc2)
    sl_step
    iapply Hk
    sl_close

end Runs

end Cert.Proof.KernelIdeal

end
-- ==== Proof.KernelIdeal.Frame.lean ====
/-
  The frame: from any memory with zero counters the program runs to its end, leaves its four argument arrays unchanged
  and every semaphore counter at zero.

  What the results hold is stated nowhere here (both result windows are forgotten); the kernel's scratch is held at some
  contents throughout.
-/
module

public import proofs.«01_k».proof.Proof.KernelIdeal.Body

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

/-- The pipeline's body at a grid point is the printed body on the point's staging memrefs. -/
theorem defs₀_row (t : Fin cfg0.N) : defs₀ (F := F) .tc cfg0.body (cfg0.bodyArgs t (cfg0.slots t)) = bodyAt0 (F := F) t := by
  unfold defs₀; rw [Defs.onTc_tc]

/-- A scratch buffer held whole, in the two spellings. -/
theorem held_whole (c : Dev nD) (b : Ref sig .tc) (f : Buf (Elt F) ((c : Thread nD τ).loc b)) :
    ((Memref.whole b).view.loc (c : Thread nD τ) ↦[(Memref.whole b).view.set]{fullShare} f : sProp 𝕄)
      = (((c : Thread nD τ).loc b) ↦{fullShare} f) := by
  exact congrArg (fun S => (((c : Thread nD τ).loc b) ↦[S]{fullShare} f : sProp 𝕄)) (View.set_whole b)

/-- The two result windows, whose contents the frame says nothing of. -/
def fgt : Fin cfg0.W → Bool := fun w => (cfg0.win w).isOut

/-- The proof data of the frame: the inputs' blocks stay, the results' contents are forgotten, the scratch is held at
    some contents. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.ofNonempty
    | ⟨5, _⟩ => fun _ => Classical.ofNonempty
  Φ _ := Pipeline.ΦA spec0 c
  q _ := fullShare
  owed _ := 0

/-- Each input's staging buffer holds its block when the body runs. -/
theorem beforeF_0 (c : Dev nD) (t : Fin cfg0.N) (d) : (datsF m 0 c).before 0 t d = iblk m c 0 t :=
  before0_0_of m (datsF m 0 c) rfl (fun _ => rfl) t d
/-- The same of input window 1. -/
theorem beforeF_1 (c : Dev nD) (t : Fin cfg0.N) (d) : (datsF m 0 c).before 1 t d = iblk m c 1 t :=
  before0_1_of m (datsF m 0 c) rfl (fun _ => rfl) t d
/-- The same of input window 2. -/
theorem beforeF_2 (c : Dev nD) (t : Fin cfg0.N) (d) : (datsF m 0 c).before 2 t d = iblk m c 2 t :=
  before0_2_of m (datsF m 0 c) rfl (fun _ => rfl) t d
/-- The same of input window 3. -/
theorem beforeF_3 (c : Dev nD) (t : Fin cfg0.N) (d) : (datsF m 0 c).before 3 t d = iblk m c 3 t :=
  before0_3_of m (datsF m 0 c) rfl (fun _ => rfl) t d

set_option maxHeartbeats 1000000 in
/-- The body obligation: at every point the body runs from any scratch and any contents of the results' buffers. -/
theorem body_obligationF (c : Dev nD) : BodyObligation (datsF (F := F) m 0 c) (defs₀ (F := F)) 𝒱₀ () Set.univ fgt := fun t => by
  rw [bigSep_W0, bigSep_W0, defs₀_row]
  show iprop(Pipeline.ΦA spec0 c ∗ (datsF m 0 c).owesAt () t.castSucc
      ∗ (∃ d, owns (c : Thread nD τ) (st0_0 t) fullShare ((datsF m 0 c).before 0 t d))
      ∗ (∃ d, owns (c : Thread nD τ) (st0_1 t) fullShare ((datsF m 0 c).before 1 t d))
      ∗ (∃ d, owns (c : Thread nD τ) (st0_2 t) fullShare ((datsF m 0 c).before 2 t d))
      ∗ (∃ d, owns (c : Thread nD τ) (st0_3 t) fullShare ((datsF m 0 c).before 3 t d))
      ∗ (∃ X, owns (c : Thread nD τ) (st0_4 t) fullShare X) ∗ (∃ X, owns (c : Thread nD τ) (st0_5 t) fullShare X))
    ⊢ wp frame (wpE (defs₀ (F := F)) 𝒱₀ (c : Thread nD τ) none) Set.univ (bodyAt0 (F := F) t) fun _ =>
      iprop(Pipeline.ΦA spec0 c ∗ (datsF m 0 c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ (∃ X, owns (c : Thread nD τ) (st0_4 t) fullShare X) ∗ (∃ X, owns (c : Thread nD τ) (st0_5 t) fullShare X))
  simp only [beforeF_0, beforeF_1, beforeF_2, beforeF_3]
  unfold ΦA owns Dat.owesAt Pipeline.owesWithin
  rw [scopedRest0_eq]
  simp only [← held_whole]
  iintro ⟨⟨⟨⟨%f7, H7⟩, ⟨%f8, H8⟩, ⟨%f9, H9⟩, ⟨%f10, H10⟩⟩, ⟨%r, Hr⟩⟩, ⟨%o, %ho, Ho⟩, ⟨%d0, %f1, %hf1, H1⟩, ⟨%d1, %f2, %hf2, H2⟩, ⟨%d2, %f3, %hf3, H3⟩,
    ⟨%d3, %f4, %hf4, H4⟩, ⟨%x5, %f5, -, H5⟩, ⟨%x6, %f6, -, H6⟩⟩
  by_cases hc1 : k0_cond1 (grid0.coords t) = 1#1 <;> by_cases hc2 : k0_cond2 (grid0.coords t) = 1#1
  · exact absurd hc2 ((by decide : ∀ i : grid0.Coords, k0_cond1 i = 1#1 → ¬ k0_cond2 i = 1#1) _ hc1)
  · iapply ((runA c (grid0.coords t) _ _ _ _ _ _ _ _ _ _ _ _ _ _ _ _ _ _ _ _ f1 f2 f3 f4 f7 f8 f9 f10 hc1 hc2).2.2.2.2 Set.univ _)
    isplitl [H1]; · iexact H1
    isplitl [H2]; · iexact H2
    isplitl [H3]; · iexact H3
    isplitl [H4]; · iexact H4
    isplitl [H7]; · iexact H7
    isplitl [H8]; · iexact H8
    isplitl [H9]; · iexact H9
    isplitl [H10]; · iexact H10
    iintro ⟨H1, H2, H3, H4, H7, H8, H9, H10⟩
    sl_close
  · iapply ((runC c (grid0.coords t) _ _ _ _ _ _ _ _ _ _ _ _ _ _ _ _ _ _ _ _ f2 f3 f4 f5 f6 f7 f8 f9 f10 hc1 hc2).2.2.2.2.2 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H2, H3, H4, H5, H6, H7, H8, H9, H10⟩
    sl_close
  · iapply ((runB c (grid0.coords t) _ _ _ _ _ _ _ _ _ _ _ _ _ _ _ _ _ _ _ _ f2 f3 f4 f7 f8 f9 f10 hc1 hc2).2.2.2 Set.univ _)
    isplitl [H2]; · iexact H2
    isplitl [H3]; · iexact H3
    isplitl [H4]; · iexact H4
    isplitl [H7]; · iexact H7
    isplitl [H8]; · iexact H8
    isplitl [H9]; · iexact H9
    isplitl [H10]; · iexact H10
    iintro ⟨H2, H3, H4, H7, H8, H9, H10⟩
    sl_close

/-! ## The launch -/

/-- The host lines after the region write only the two results. -/
theorem sfx_writes : ∀ ops ∈ ([hostOps1] : List (List (HloOp τ sig (Elt F)))), ∀ op ∈ ops, ∀ b : Ref sig .tc,
    Proc.devRef .tc b ∈ op.writes → b ∈ ({main_v2, main_v3} : Finset (Ref sig .tc)) := by
  intro ops hops op hop b
  simp only [List.mem_cons, List.mem_nil_iff, or_false] at hops
  rcases hops with rfl
  simp only [hostOps1, List.mem_cons, List.mem_nil_iff, or_false] at hop
  rcases hop with rfl | rfl <;> rw [StableHlo.reshape_writes, Finset.mem_singleton] <;> intro hb
  · simp [Proc.devRef_injective _ hb]
  · simp [Proc.devRef_injective _ hb]

set_option backward.isDefEq.respectTransparency.types false in
/-- **The frame run**: every launch from zero counters ends with every input array as the region found it, every buffer
    no line writes unchanged, and the counters at zero. -/
theorem run_mainF : θ_run defs (onTc (τ := τ) (main (F := F))) (s₀ m ρ) (fun r =>
    Pipeline.RDat.FramePostR cfg0 (fun c => (datsF m 0 c).toRForget fgt) {main_v2, main_v3} (fun c b => V0 m c (Proc.devRef .tc b)) r
      ∧ r.2.sem = fun _ => 0) :=
  Pipeline.θ_run_frame_around_T_forget cfgs (datsF m) 0 launch0 defs₀ 𝒱₀ fgt {main_v2, main_v3} m ρ main
    (hbody := fun c => (body_obligationF m c).loose) (hshare := fun c => (datsF m 0 c).share_full fun _ => rfl) (howed := fun _ _ => rfl)
    (V₀ := V0 m) (opss := [hostOps1]) (hsub := sfx_sub) (hfresh := sfx_fresh) (hkeep := sfx_keeps)
    (hT := sfx_writes) (hmain := hmain m 𝒱₀) (hA := fun _ _ => rfl) (hΦ := fun _ _ => rfl)
    (Q' := _) (hQ' := fun _ h => h)

/-- **The frame**: the four argument arrays end as they started, every counter at zero. -/
theorem run_frame : θ_run defs (onTc (τ := τ) (main (F := F))) ⟨m, fun _ => 0, ρ⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨
      ((h.1 c).2 main_arg0 (Finset.mem_sdiff.mpr ⟨Pipeline.mem_restRefs_of main_arg0 (by decide) (by decide), by decide⟩)).trans (V_main_arg0 m c),
      (Pipeline.RDat.FramePostR.arr_in h.1 c 1 rfl).trans (V_main_arg1 m c),
      (Pipeline.RDat.FramePostR.arr_in h.1 c 2 rfl).trans (V_main_arg2 m c),
      (Pipeline.RDat.FramePostR.arr_in h.1 c 3 rfl).trans (V_main_arg3 m c)⟩, h.2⟩) (run_mainF m ρ)

end Cert.Proof.KernelIdeal

end
-- ==== Proof.KernelIdeal.Trip.lean ====
/-
  One trip of the accumulation loop, as the payloads of the run spell it.

  A trip takes 8 groups of rows. For each of the four strips of 128 columns it stacks 16 dequantised blocks of 64 rows,
  puts the four strips side by side and adds the product with the matching 1024 columns of the permuted `x`.
-/
module

public import proofs.«01_k».proof.Proof.KernelIdeal.Body

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

/-- One dequantised block: 8 rows of packed words make 64 rows of weights. -/
def block (words : Vec F S8x128 .i32) (zero : Vec F S1x128 .i32) (scale : Vec F S1x128 .f32) : FVec F S64x128 .bf16 :=
  k0_pay20 words zero scale

/-- Sixteen blocks on top of each other. -/
def stack (b : Fin 16 → FVec F S64x128 .bf16) : FVec F S1024x128 .bf16 :=
  concatenate S1024x128 0 [⟨S64x128, b 0⟩, ⟨S64x128, b 1⟩, ⟨S64x128, b 2⟩, ⟨S64x128, b 3⟩, ⟨S64x128, b 4⟩, ⟨S64x128, b 5⟩, ⟨S64x128, b 6⟩, ⟨S64x128, b 7⟩,
    ⟨S64x128, b 8⟩, ⟨S64x128, b 9⟩, ⟨S64x128, b 10⟩, ⟨S64x128, b 11⟩, ⟨S64x128, b 12⟩, ⟨S64x128, b 13⟩, ⟨S64x128, b 14⟩, ⟨S64x128, b 15⟩]
    concatenates_S64x128_S64x128_S64x128_S64x128_S64x128_S64x128_S64x128_S64x128_S64x128_S64x128_S64x128_S64x128_S64x128_S64x128_S64x128_S64x128_S1024x128_d0

section
variable (arg2 : Memref sig .tc .vmem S1536x512 .i32) (arg3 : Memref sig .tc .vmem S96x512 .bf16) (arg4 : Memref sig .tc .vmem S96x128 .i32)
  (arg9 : Memref sig .tc .vmem S8x512 .i32) (arg10 : Memref sig .tc .vmem S8x512 .f32) (arg0 : BitVec 32)
  (X2 : BufTy.Contents (Elt F) arg2.view.ty) (X3 : BufTy.Contents (Elt F) arg3.view.ty) (X4 : BufTy.Contents (Elt F) arg4.view.ty)
  (k : Fin k0_t2_loop.trips)

/-- The strip `o` (its first column) of one row `g` lies inside the eight rows of the scratch buffers. -/
theorem row_inb (g : Fin 8) (t : Fin 4) : ∀ a, (![(g : ℕ), 128 * (t : ℕ)] : Fin 2 → ℕ) a + S1x128.size a ≤ S8x512.size a := by
  intro a; fin_cases a <;> simp [S1x128, S8x512] <;> omega

/-- The packed zeros of group row `g`, strip `t`, read back from the scratch the trip has filled. -/
def zeroRow (g : Fin 8) (t : Fin 4) : Vec F S1x128 .i32 :=
  arg9.view.readCov (trip_k0_t2.sl.HW_arg9_4 (F := F) arg4 arg0 X4 k) (Rect.unit (s := S8x512) ![(g : ℕ), 128 * (t : ℕ)] S1x128.size (row_inb g t)).toLoadRect

/-- The scales of group row `g`, strip `t`, read back from the scratch the trip has filled. -/
def scaleRow (g : Fin 8) (t : Fin 4) : Vec F S1x128 .f32 :=
  arg10.view.readCov (trip_k0_t2.sl.HW_arg10_4 (F := F) arg3 X3 k) (Rect.unit (s := S8x512) ![(g : ℕ), 128 * (t : ℕ)] S1x128.size (row_inb g t)).toLoadRect

/-- The group row a block of eight word rows belongs to. -/
def grp (r : Fin 16) : Fin 8 := ⟨r / 2, by omega⟩

/-- Strip `t`'s stack of sixteen blocks, from the word rows the blocks are loaded from. -/
def strip (t : Fin 4) (words : Fin 16 → Vec F S8x128 .i32) : FVec F S1024x128 .bf16 :=
  stack fun r => block (words r) (zeroRow arg4 arg9 arg0 X4 k (grp r) t) (scaleRow arg3 arg10 X3 k (grp r) t)

/-- What the run names the strip 0 is the stack of its blocks. -/
theorem strip0_eq : trip_k0_t2.sl.r_89 arg2 arg3 arg4 arg9 arg10 arg0 X2 X3 X4 k
    = strip arg3 arg4 arg9 arg10 arg0 X3 X4 k 0 fun r =>
        View.readAt (Elt F) arg2.view (Rect.unit (s := S1536x512) (k0_off7 k (BitVec.ofNat 32 (8 * r.val))) S8x128.size (k0_off7_inb k r)).toLoadRect X2 := by
  unfold strip zeroRow scaleRow
  sl_unfold_run_names
  rfl

/-- What the run names the strip 1 is the stack of its blocks. -/
theorem strip1_eq : trip_k0_t2.sl.r_181 arg2 arg3 arg4 arg9 arg10 arg0 X2 X3 X4 k
    = strip arg3 arg4 arg9 arg10 arg0 X3 X4 k 1 fun r =>
        View.readAt (Elt F) arg2.view (Rect.unit (s := S1536x512) (k0_off8 k (BitVec.ofNat 32 (8 * r.val))) S8x128.size (k0_off8_inb k r)).toLoadRect X2 := by
  unfold strip zeroRow scaleRow
  sl_unfold_run_names
  rfl

/-- What the run names the strip 2 is the stack of its blocks. -/
theorem strip2_eq : trip_k0_t2.sl.r_265 arg2 arg3 arg4 arg9 arg10 arg0 X2 X3 X4 k
    = strip arg3 arg4 arg9 arg10 arg0 X3 X4 k 2 fun r =>
        View.readAt (Elt F) arg2.view (Rect.unit (s := S1536x512) (k0_off9 k (BitVec.ofNat 32 (8 * r.val))) S8x128.size (k0_off9_inb k r)).toLoadRect X2 := by
  unfold strip zeroRow scaleRow
  sl_unfold_run_names
  rfl

/-- What the run names the strip 3 is the stack of its blocks. -/
theorem strip3_eq : trip_k0_t2.sl.v3410 arg2 arg3 arg4 arg9 arg10 arg0 X2 X3 X4 k
    = strip arg3 arg4 arg9 arg10 arg0 X3 X4 k 3 fun r =>
        View.readAt (Elt F) arg2.view (Rect.unit (s := S1536x512) (k0_off10 k (BitVec.ofNat 32 (8 * r.val))) S8x128.size (k0_off10_inb k r)).toLoadRect X2 := by
  unfold strip zeroRow scaleRow
  sl_unfold_run_names
  rfl

end

end Cert.Proof.KernelIdeal
end
-- ==== Proof.KernelIdeal.Weights.lean ====
/-
  The weights the kernel dequantises, at exact arithmetic: nibbles read as floats by their bits.
-/
module

public import proofs.«01_k».proof.Proof.KernelIdeal.Trip
public import Idealize.ShloMosaic.Lib.Pointwise
public import Idealize.ShloMosaic.Lib.BitcastPair

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

/-- A nibble of a word: bits `4 p … 4 p + 3`. -/
def nib (w : BitVec 32) (p : ℕ) : ℕ := w.toNat / 2 ^ (4 * p) % 16

/-- A packed pair read at 16 bits: rows `2 r` and `2 r + 1` are the low and the high half of word row `r`. -/
theorem pair_apply (x : S8x128.Idx → BitVec 32) (h : S8x128.Bitcasts 32 S16x128 16) (r : Fin 16) (l : Fin 128) :
    bitcast S16x128 16 x h (ix2 r l) = (x (ix2 ⟨r / 2, by omega⟩ l)).extractLsb' (16 * (r % 2)) 16 := by
  rw [bitcast_32_16]
  have e : h.srcIdx (ix2 r l) (S16x128.row (ix2 r l) / 2) (fun a ha => by
      have := h.pos_lt (ix2 r l) 0 (by decide) a ha; omega) = ix2 ⟨r / 2, by omega⟩ l := by
    funext a; fin_cases a <;> rfl
  rw [e]; rfl

/-- The bfloat16 pattern `0x4300 | c` reads as `128 + c`. -/
theorem ofBits_pair (c : ℕ) (hc : c < 16) : Ideal.ofBits .bf16 (0x4300#16 ||| BitVec.ofNat 16 c) = ((128 + c : ℝ) : EReal) := by
  interval_cases c <;> simp [Ideal.ofBits, Ideal.ieee, -EReal.coe_mul, -EReal.coe_add] <;> norm_num

/-- Half `h` of the word the kernel makes of nibbles `j` and `j + 4`. -/
theorem half_bits (w : BitVec 32) (j h : ℕ) (hj : j < 4) (hh : h < 2) :
    ((w.sshiftRight (4 * j) &&& 983055#32 ||| 1124090624#32).extractLsb' (16 * h) 16)
      = 0x4300#16 ||| BitVec.ofNat 16 (nib w (j + 4 * h)) := by
  have e : BitVec.ofNat 16 (nib w (j + 4 * h)) = (w >>> (4 * (j + 4 * h))).setWidth 16 &&& 15#16 := by
    apply BitVec.eq_of_toNat_eq
    simp only [nib, BitVec.toNat_ofNat, BitVec.toNat_and, BitVec.toNat_setWidth, BitVec.toNat_ushiftRight, Nat.shiftRight_eq_div_pow]
    rw [show (15 : ℕ) % 2 ^ 16 = 2 ^ 4 - 1 by norm_num, Nat.and_two_pow_sub_one_eq_mod]
    omega
  rw [e]
  apply BitVec.eq_of_getLsbD_eq
  intro i hi
  interval_cases j <;> interval_cases h <;> interval_cases i <;> simp [BitVec.getElem_sshiftRight]

/-- What the kernel reads of half `h` of the word made of nibbles `j` and `j + 4`. -/
theorem half_value (w : BitVec 32) (j h : ℕ) (hj : j < 4) (hh : h < 2) :
    Ideal.ofBits .bf16 ((w.sshiftRight (4 * j) &&& 983055#32 ||| 1124090624#32).extractLsb' (16 * h) 16)
      = ((128 + nib w (j + 4 * h) : ℝ) : EReal) := by
  rw [half_bits w j h hj hh, ofBits_pair (nib w (j + 4 * h)) (Nat.mod_lt _ (by norm_num))]

/-- One dequantised block of 64 rows: code less zero point, times scale. -/
theorem block_apply (words : Vec Ideal S8x128 .i32) (zero : Vec Ideal S1x128 .i32) (scale : Vec Ideal S1x128 .f32) (row : Fin 64) (l : Fin 128) :
    block (F := Ideal) words zero scale (ix2 row l)
      = (Ideal.ofBits .bf16 (((words (ix2 ⟨row % 16 / 2, by omega⟩ l)).sshiftRight (4 * (row / 16)) &&& 983055#32 ||| 1124090624#32).extractLsb' (16 * (row % 2)) 16)
          - Ideal.ofBits .bf16 ((zero (ix2 0 l)).extractLsb' (16 * (row % 2)) 16)) * scale (ix2 0 l) := by
  pointwise [block, k0_pay20, pair_apply]
  obtain ⟨r, hr⟩ := row
  dsimp only
  by_cases h1 : r < 16
  · rw [dif_pos h1]
    have e : r / 16 = 0 := by omega
    have e1 : r % 16 = r := by omega
    simp only [e, e1]; rfl
  rw [dif_neg h1]
  by_cases h2 : r - 16 < 16
  · rw [dif_pos h2]
    have e : r / 16 = 1 := by omega
    have e1 : r % 16 = r - 16 := by omega
    have e2 : r % 2 = (r - 16) % 2 := by omega
    simp only [e, e1, e2]; rfl
  rw [dif_neg h2]
  by_cases h3 : r - 16 - 16 < 16
  · rw [dif_pos h3]
    have e : r / 16 = 2 := by omega
    have e1 : r % 16 = r - 16 - 16 := by omega
    have e2 : r % 2 = (r - 16 - 16) % 2 := by omega
    simp only [e, e1, e2]; rfl
  · rw [dif_neg h3]
    have e : r / 16 = 3 := by omega
    have e1 : r % 16 = r - 16 - 16 - 16 := by omega
    have e2 : r % 2 = (r - 16 - 16 - 16) % 2 := by omega
    simp only [e, e1, e2]; rfl

/-- The word the kernel makes of one zero point: the nibble in both halves, each under the exponent of 128. -/
def zpack (c : ℕ) : BitVec 32 := BitVec.ofNat 32 c ||| BitVec.ofNat 32 c <<< 16 ||| 1124090624#32

/-- Either half of a packed zero point reads as `128 + c`. -/
theorem zpack_value (c h : ℕ) (hc : c < 16) (hh : h < 2) :
    Ideal.ofBits .bf16 ((zpack c).extractLsb' (16 * h) 16) = ((128 + c : ℝ) : EReal) := by
  rw [← ofBits_pair c hc]
  congr 1
  interval_cases c <;> interval_cases h <;> rfl

/-- Shifting a word right by `4 p` and keeping four bits leaves its nibble `p`. -/
theorem nibble_word (u : ArithUnit) (x : BitVec 32) (p : ℕ) (hp : p < 8) :
    IntOp.andi (IntOp.shrsi u x (BitVec.ofNat 32 (4 * p))) 15#32 = BitVec.ofNat 32 (nib x p) := by
  have e : BitVec.ofNat 32 (nib x p) = (x >>> (4 * p)) &&& 15#32 := by
    apply BitVec.eq_of_toNat_eq
    simp only [nib, BitVec.toNat_ofNat, BitVec.toNat_and, BitVec.toNat_ushiftRight, Nat.shiftRight_eq_div_pow]
    rw [show (15 : ℕ) % 2 ^ 32 = 2 ^ 4 - 1 by norm_num, Nat.and_two_pow_sub_one_eq_mod]
    omega
  rw [e]
  apply BitVec.eq_of_getLsbD_eq
  intro i hi
  unfold IntOp.shrsi IntOp.andi BitVec.sshiftRight'
  interval_cases p <;> interval_cases i <;> simp [BitVec.getElem_sshiftRight]

/-- A zero point's packed word, from the word `x` its nibble lies in. -/
theorem zpack_word (x : BitVec 32) (l : Fin 128) :
    IntOp.ori (IntOp.ori
      (IntOp.andi (IntOp.shrsi ArithUnit.vector x (IntOp.muli 4#32 (IntOp.andi (BitVec.ofNat 32 l) 7#32))) 15#32)
      (IntOp.shli ArithUnit.vector
        (IntOp.andi (IntOp.shrsi ArithUnit.vector x (IntOp.muli 4#32 (IntOp.andi (BitVec.ofNat 32 l) 7#32))) 15#32) 16#32)) 1124090624#32
      = zpack (nib x (l % 8)) := by
  have e : IntOp.muli 4#32 (IntOp.andi (BitVec.ofNat 32 l) 7#32) = BitVec.ofNat 32 (4 * (l % 8)) := by
    revert l; decide +kernel
  rw [e, nibble_word _ x _ (Nat.mod_lt _ (by norm_num))]; rfl

/-- The column of packed zero points that output column `128 t + l` of the tile `n` finds its nibble in. -/
def zcol (n : Fin 8) (t : Fin 4) (l : Fin 128) : Fin 128 := ⟨(n : ℕ) % 2 * 64 + 16 * t + l / 8, by omega⟩

/-- The packed zero points of the first strip of 128 columns. -/
theorem zeros0 (n : Fin 8) (v : Vec Ideal S8x128 .i32) (row : Fin 8) (l : Fin 128) :
    k0_pay8 (k0_pay7 (F := Ideal) (BitVec.ofNat 32 n) v) 1124090624#32 (ix2 row l) = zpack (nib (v (ix2 row (zcol n 0 l))) (l % 8)) := by
  pointwise [k0_pay8, k0_pay7]
  refine (zpack_word _ l).trans (congrArg (fun q => zpack (nib (v (ix2 row q)) (l % 8))) (Fin.ext ?_))
  dsimp only [zcol]
  revert l n; decide +kernel

/-- The packed zero points of the second strip of 128 columns. -/
theorem zeros1 (n : Fin 8) (v : Vec Ideal S8x128 .i32) (row : Fin 8) (l : Fin 128) :
    k0_pay12 (k0_pay10 (F := Ideal) (BitVec.ofNat 32 n) v) k0_pay11 4#32 (ix2 row l) = zpack (nib (v (ix2 row (zcol n 1 l))) (l % 8)) := by
  pointwise [k0_pay12, k0_pay10, k0_pay11]
  refine (zpack_word _ l).trans (congrArg (fun q => zpack (nib (v (ix2 row q)) (l % 8))) (Fin.ext ?_))
  dsimp only [zcol]
  revert l n; decide +kernel

/-- The packed zero points of the third strip of 128 columns. -/
theorem zeros2 (n : Fin 8) (v : Vec Ideal S8x128 .i32) (row : Fin 8) (l : Fin 128) :
    k0_pay16 (F := Ideal) v (iota .tc S8x128 32 [1] iota_S8x128_d1_w32) (k0_pay14 (BitVec.ofNat 32 n)) (k0_pay15 (BitVec.ofNat 32 n)) (ix2 row l)
      = zpack (nib (v (ix2 row (zcol n 2 l))) (l % 8)) := by
  pointwise [k0_pay16, k0_pay14, k0_pay15]
  refine (zpack_word _ l).trans (congrArg (fun q => zpack (nib (v (ix2 row q)) (l % 8))) (Fin.ext ?_))
  dsimp only [zcol]
  revert l n; decide +kernel

end Cert.Proof.KernelIdeal
end
-- ==== Proof.KernelIdeal.TripValue.lean ====
/-
  One trip's weights, element by element, at exact arithmetic.
-/
module

public import proofs.«01_k».proof.Proof.KernelIdeal.Weights

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

/-- The tile of zero points strip 3 reads, as the kernel computes it from the grid coordinate. -/
def tile3 (a0 : BitVec 32) : BitVec 32 :=
  Scalar.addi
    (Scalar.muli
      (Scalar.select (Scalar.andi (Scalar.xori (Scalar.cmpi CmpIPredicate.slt (Scalar.remsi a0 2#32) 0#32) 0#1) (Scalar.cmpi CmpIPredicate.ne (Scalar.remsi a0 2#32) 0#32))
        (Scalar.addi (Scalar.remsi a0 2#32) 2#32) (Scalar.remsi a0 2#32))
      4#32)
    3#32

/-- The packed zero points of the fourth strip of 128 columns. -/
theorem zeros3 (n : Fin 8) (v : Vec Ideal S8x128 .i32) (row : Fin 8) (l : Fin 128) :
    k0_pay18 (F := Ideal) v (tile3 (BitVec.ofNat 32 n)) (ix2 row l) = zpack (nib (v (ix2 row (zcol n 3 l))) (l % 8)) := by
  pointwise [k0_pay18]
  refine (zpack_word _ l).trans (congrArg (fun q => zpack (nib (v (ix2 row q)) (l % 8))) (Fin.ext ?_))
  dsimp only [zcol]
  revert l n; decide +kernel

/-- Widening a scale changes nothing at exact arithmetic. -/
theorem widen9 (v : Vec Ideal S8x128 .bf16) (g : Fin 8) (l : Fin 128) : k0_pay9 (F := Ideal) v (ix2 g l) = v (ix2 g l) := by
  pointwise [k0_pay9]

/-- Widening a scale changes nothing at exact arithmetic. -/
theorem widen13 (v : Vec Ideal S8x128 .bf16) (g : Fin 8) (l : Fin 128) : k0_pay13 (F := Ideal) v (ix2 g l) = v (ix2 g l) := by
  pointwise [k0_pay13]

/-- Widening a scale changes nothing at exact arithmetic. -/
theorem widen17 (v : Vec Ideal S8x128 .bf16) (g : Fin 8) (l : Fin 128) : k0_pay17 (F := Ideal) v (ix2 g l) = v (ix2 g l) := by
  pointwise [k0_pay17]

/-- Widening a scale changes nothing at exact arithmetic. -/
theorem widen19 (v : Vec Ideal S8x128 .bf16) (g : Fin 8) (l : Fin 128) : k0_pay19 (F := Ideal) v (ix2 g l) = v (ix2 g l) := by
  pointwise [k0_pay19]

/-- The accumulation loop has 12 trips. -/
theorem trips_lt (k : Fin k0_t2_loop.trips) : (k : ℕ) < 12 := lt_of_lt_of_eq k.isLt (by decide)

/-- A load through a unit-stride rectangle of a rank-2 buffer, at an index. -/
theorem load_apply {sig : RefSig} {κ : Kind} {sp : Space} {a b a' b' : ℕ} {e : EltTy} {Val : EltTy → Type}
    (v : View sig κ sp (⟨2, ![a, b]⟩ : Shape) e) (f : v.ty.Contents Val) (off : Fin 2 → ℕ)
    (inb : ∀ x, off x + (![a', b'] : Fin 2 → ℕ) x ≤ (⟨2, ![a, b]⟩ : Shape).size x) (o0 o1 : ℕ) (h : off = ![o0, o1])
    (r : Fin a') (l : Fin b') (R : Fin a) (L : Fin b) (hR : (R : ℕ) = o0 + r) (hL : (L : ℕ) = o1 + l) :
    View.readAt Val v (Rect.unit (s := (⟨2, ![a, b]⟩ : Shape)) off ![a', b'] inb).toLoadRect f (ix2 r l) = v.read Val f (ix2 R L) := by
  subst h
  refine congrArg (v.read Val f) (funext fun x => Fin.ext ?_)
  fin_cases x
  · show o0 + 1 * (r : ℕ) = R; omega
  · show o1 + 1 * (l : ℕ) = L; omega

section
variable (arg2 : Memref sig .tc .vmem S1536x512 .i32) (arg3 : Memref sig .tc .vmem S96x512 .bf16) (arg4 : Memref sig .tc .vmem S96x128 .i32)
  (arg9 : Memref sig .tc .vmem S8x512 .i32) (arg10 : Memref sig .tc .vmem S8x512 .f32) (n : Fin 8)
  (X2 : BufTy.Contents (Elt Ideal) arg2.view.ty) (X3 : BufTy.Contents (Elt Ideal) arg3.view.ty) (X4 : BufTy.Contents (Elt Ideal) arg4.view.ty)
  (k : Fin k0_t2_loop.trips)

/-- The eight rows of packed zero points the trip loads. -/
abbrev qz : Vec Ideal S8x128 .i32 :=
  View.readAt (Elt Ideal) arg4.view (Rect.unit (s := S96x128) (k0_off2 k) S8x128.size (k0_off2_inb k)).toLoadRect X4

/-- The four stores of packed zero points, last first. -/
theorem zero_stores : trip_k0_t2.sl.HW_arg9_4 (F := Ideal) arg4 (BitVec.ofNat 32 n) X4 k =
    [⟨Rect.unit (s := S8x512) ![0, 384] S8x128.size inb_S8x512_S8x128_0_384, k0_pay18 (F := Ideal) (qz arg4 X4 k) (tile3 (BitVec.ofNat 32 n))⟩,
     ⟨Rect.unit (s := S8x512) ![0, 256] S8x128.size inb_S8x512_S8x128_0_256, k0_pay16 (F := Ideal) (qz arg4 X4 k) (iota .tc S8x128 32 [1] iota_S8x128_d1_w32) (k0_pay14 (BitVec.ofNat 32 n)) (k0_pay15 (BitVec.ofNat 32 n))⟩,
     ⟨Rect.unit (s := S8x512) ![0, 128] S8x128.size inb_S8x512_S8x128_0_128, k0_pay12 (k0_pay10 (F := Ideal) (BitVec.ofNat 32 n) (qz arg4 X4 k)) k0_pay11 4#32⟩,
     ⟨Rect.unit (s := S8x512) ![0, 0] S8x128.size inb_S8x512_S8x128_0_0, k0_pay8 (k0_pay7 (F := Ideal) (BitVec.ofNat 32 n) (qz arg4 X4 k)) 1124090624#32⟩] := by
  sl_unfold_run_names
  rfl

/-- The four stores of scales, last first. -/
theorem scale_stores : trip_k0_t2.sl.HW_arg10_4 (F := Ideal) arg3 X3 k =
    [⟨Rect.unit (s := S8x512) ![0, 384] S8x128.size inb_S8x512_S8x128_0_384, k0_pay19 (F := Ideal) (View.readAt (Elt Ideal) arg3.view (Rect.unit (s := S96x512) (k0_off6 k) S8x128.size (k0_off6_inb k)).toLoadRect X3)⟩,
     ⟨Rect.unit (s := S8x512) ![0, 256] S8x128.size inb_S8x512_S8x128_0_256, k0_pay17 (F := Ideal) (View.readAt (Elt Ideal) arg3.view (Rect.unit (s := S96x512) (k0_off5 k) S8x128.size (k0_off5_inb k)).toLoadRect X3)⟩,
     ⟨Rect.unit (s := S8x512) ![0, 128] S8x128.size inb_S8x512_S8x128_0_128, k0_pay13 (F := Ideal) (View.readAt (Elt Ideal) arg3.view (Rect.unit (s := S96x512) (k0_off4 k) S8x128.size (k0_off4_inb k)).toLoadRect X3)⟩,
     ⟨Rect.unit (s := S8x512) ![0, 0] S8x128.size inb_S8x512_S8x128_0_0, k0_pay9 (F := Ideal) (View.readAt (Elt Ideal) arg3.view (Rect.unit (s := S96x512) (k0_off3 k) S8x128.size (k0_off3_inb k)).toLoadRect X3)⟩] := by
  sl_unfold_run_names
  rfl

/-- Four side-by-side stores of 128 columns, read back at an index. -/
theorem stores_read {α : EltTy} {Val : EltTy → Type} [∀ e, Nonempty (Val e)] (w : Fin 4 → S8x128.Idx → Val α) (y : S8x512.Idx) (g : Fin 8) (t : Fin 4) (l : Fin 128)
    (h0 : (y 0 : ℕ) = g) (h1 : (y 1 : ℕ) = 128 * t + l) :
    View.canon ([⟨Rect.unit (s := S8x512) ![0, 384] S8x128.size inb_S8x512_S8x128_0_384, w 3⟩, ⟨Rect.unit (s := S8x512) ![0, 256] S8x128.size inb_S8x512_S8x128_0_256, w 2⟩,
      ⟨Rect.unit (s := S8x512) ![0, 128] S8x128.size inb_S8x512_S8x128_0_128, w 1⟩, ⟨Rect.unit (s := S8x512) ![0, 0] S8x128.size inb_S8x512_S8x128_0_0, w 0⟩] : List (View.Piece Val S8x512 α)) y
      = w t (ix2 g l) := by
  have key : ∀ (t' : Fin 4) (off : ℕ) (x : S8x128.Idx) (z : S8x512.Idx), off = 128 * (t' : ℕ) → (z 0 : ℕ) = x 0 → (z 1 : ℕ) = off + x 1 →
      w t' x = w ⟨(z 1 : ℕ) / 128, by have : (z 1 : ℕ) < 512 := (z 1).isLt; omega⟩ (ix2 (z 0) ⟨(z 1 : ℕ) % 128, Nat.mod_lt _ (by norm_num)⟩) := by
    intro t' off x z ho hz0 hz1
    have hx : (x 1 : ℕ) < 128 := (x 1).isLt
    have ht : t' = ⟨(z 1 : ℕ) / 128, by have : (z 1 : ℕ) < 512 := (z 1).isLt; omega⟩ := Fin.ext (by show (t' : ℕ) = (z 1 : ℕ) / 128; omega)
    have hxx : x = ix2 (z 0) ⟨(z 1 : ℕ) % 128, Nat.mod_lt _ (by norm_num)⟩ := by
      rw [eq_ix2 x]
      exact congrArg₂ ix2 (Fin.ext hz0.symm) (Fin.ext (by show (x 1 : ℕ) = (z 1 : ℕ) % 128; omega))
    exact (congrArg (w t') hxx).trans (congrArg (fun q => w q (ix2 (z 0) ⟨(z 1 : ℕ) % 128, Nat.mod_lt _ (by norm_num)⟩)) ht)
  refine (View.canon_apply_of_pieces (Val := Val) (fun z : S8x512.Idx => w ⟨(z 1 : ℕ) / 128, by have : (z 1 : ℕ) < 512 := (z 1).isLt; omega⟩ (ix2 (z 0) ⟨(z 1 : ℕ) % 128, Nat.mod_lt _ (by norm_num)⟩)) _ ?_ y ?_).trans
    (key t (128 * t) (ix2 g l) y rfl h0 h1).symm
  · intro p hp x
    simp only [List.mem_cons, List.not_mem_nil, or_false] at hp
    rcases hp with rfl | rfl | rfl | rfl
    · exact key 3 384 x _ rfl (by show 0 + 1 * (x 0 : ℕ) = x 0; omega) (by show 384 + 1 * (x 1 : ℕ) = 384 + x 1; omega)
    · exact key 2 256 x _ rfl (by show 0 + 1 * (x 0 : ℕ) = x 0; omega) (by show 256 + 1 * (x 1 : ℕ) = 256 + x 1; omega)
    · exact key 1 128 x _ rfl (by show 0 + 1 * (x 0 : ℕ) = x 0; omega) (by show 128 + 1 * (x 1 : ℕ) = 128 + x 1; omega)
    · exact key 0 0 x _ rfl (by show 0 + 1 * (x 0 : ℕ) = x 0; omega) (by show 0 + 1 * (x 1 : ℕ) = 0 + x 1; omega)
  · have hy : ∀ (off : ℕ) (inb : ∀ a, (![0, off] : Fin 2 → ℕ) a + S8x128.size a ≤ S8x512.size a), off = 128 * (t : ℕ) → y ∈ (Rect.unit (s := S8x512) ![0, off] S8x128.size inb).set := by
      intro off inb ho
      refine Rect.mem_set_unit.mpr fun a => ?_
      fin_cases a
      · exact ⟨Nat.zero_le _, by show (y 0 : ℕ) < 0 + 8; omega⟩
      · exact ⟨by show off ≤ (y 1 : ℕ); omega, by show (y 1 : ℕ) < off + 128; omega⟩
    fin_cases t
    · exact ⟨_, List.mem_cons_of_mem _ (List.mem_cons_of_mem _ (List.mem_cons_of_mem _ List.mem_cons_self)), hy 0 inb_S8x512_S8x128_0_0 rfl⟩
    · exact ⟨_, List.mem_cons_of_mem _ (List.mem_cons_of_mem _ List.mem_cons_self), hy 128 inb_S8x512_S8x128_0_128 rfl⟩
    · exact ⟨_, List.mem_cons_of_mem _ List.mem_cons_self, hy 256 inb_S8x512_S8x128_0_256 rfl⟩
    · exact ⟨_, List.mem_cons_self, hy 384 inb_S8x512_S8x128_0_384 rfl⟩

/-- The zero points a block reads back: the nibble of the packed word for its column. -/
theorem zeroRow_apply (g : Fin 8) (t : Fin 4) (l : Fin 128) :
    zeroRow arg4 arg9 (BitVec.ofNat 32 n) X4 k g t (ix2 0 l) = zpack (nib (qz arg4 X4 k (ix2 g (zcol n t l))) (l % 8)) := by
  unfold zeroRow
  rw [View.readCov_eq_canon', zero_stores]
  refine (stores_read (Val := Elt Ideal) (α := .i32) ![_, _, _, _] _ g t l ?_ ?_).trans ?_
  · show (g : ℕ) + 1 * 0 = g; omega
  · show 128 * (t : ℕ) + 1 * (l : ℕ) = 128 * t + l; omega
  · fin_cases t
    · exact zeros0 n _ g l
    · exact zeros1 n _ g l
    · exact zeros2 n _ g l
    · exact zeros3 n _ g l

/-- The scale a block reads back: the scale of its group and column. -/
theorem scaleRow_apply (g : Fin 8) (t : Fin 4) (l : Fin 128) :
    scaleRow arg3 arg10 X3 k g t (ix2 0 l) =
      arg3.view.read (Elt Ideal) X3 (ix2 (⟨8 * (k : ℕ) + g, by have := trips_lt k; omega⟩ : Fin 96) (⟨128 * (t : ℕ) + l, by omega⟩ : Fin 512)) := by
  unfold scaleRow
  rw [View.readCov_eq_canon', scale_stores]
  refine (stores_read (Val := Elt Ideal) (α := .f32) ![_, _, _, _] _ g t l ?_ ?_).trans ?_
  · show (g : ℕ) + 1 * 0 = g; omega
  · show 128 * (t : ℕ) + 1 * (l : ℕ) = 128 * t + l; omega
  · fin_cases t
    · refine (widen9 _ g l).trans ?_
      exact load_apply arg3.view X3 _ (k0_off3_inb k) _ _ (k0_off3_eq k) g l ⟨8 * (k : ℕ) + g, by have := trips_lt k; omega⟩ ⟨128 * 0 + l, by omega⟩ rfl (by show 128 * 0 + (l : ℕ) = 0 + l; omega)
    · refine (widen13 _ g l).trans ?_
      exact load_apply arg3.view X3 _ (k0_off4_inb k) _ _ (k0_off4_eq k) g l ⟨8 * (k : ℕ) + g, by have := trips_lt k; omega⟩ ⟨128 * 1 + l, by omega⟩ rfl (by show 128 * 1 + (l : ℕ) = 128 + l; omega)
    · refine (widen17 _ g l).trans ?_
      exact load_apply arg3.view X3 _ (k0_off5_inb k) _ _ (k0_off5_eq k) g l ⟨8 * (k : ℕ) + g, by have := trips_lt k; omega⟩ ⟨128 * 2 + l, by omega⟩ rfl (by show 128 * 2 + (l : ℕ) = 256 + l; omega)
    · refine (widen19 _ g l).trans ?_
      exact load_apply arg3.view X3 _ (k0_off6_inb k) _ _ (k0_off6_eq k) g l ⟨8 * (k : ℕ) + g, by have := trips_lt k; omega⟩ ⟨128 * 3 + l, by omega⟩ rfl (by show 128 * 3 + (l : ℕ) = 384 + l; omega)

end

end Cert.Proof.KernelIdeal
end
-- ==== Proof.KernelIdeal.TripSum.lean ====
/-
  What one trip adds to the accumulator, element by element, at exact arithmetic.
-/
module

public import proofs.«01_k».proof.Proof.KernelIdeal.TripValue

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

/-- A row of the stack is a row of one of its blocks. -/
theorem stack_apply (b : Fin 16 → FVec Ideal S64x128 .bf16) (row : Fin 1024) (l : Fin 128) :
    stack b (ix2 row l) = b ⟨row / 64, by omega⟩ (ix2 ⟨row % 64, Nat.mod_lt _ (by norm_num)⟩ l) := by
  obtain ⟨r, s, h⟩ : ∃ (r : Fin 16) (s : Fin 64), (row : ℕ) = 64 * r + s := ⟨⟨row / 64, by omega⟩, ⟨row % 64, Nat.mod_lt _ (by norm_num)⟩, by show (row : ℕ) = 64 * (row / 64) + row % 64; omega⟩
  have e1 : (⟨row / 64, by omega⟩ : Fin 16) = r := Fin.ext (by show (row : ℕ) / 64 = r; omega)
  have e2 : (⟨row % 64, Nat.mod_lt _ (by norm_num)⟩ : Fin 64) = s := Fin.ext (by show (row : ℕ) % 64 = s; omega)
  rw [e1, e2]
  refine concatenate_ofFn_apply (t := S1024x128) (s₁ := S64x128) 0 b _ rfl 64 rfl (ix2 row l) r ?_ (ix2 s l) ?_ ?_
  · show (row : ℕ) / 64 = r; omega
  · show (s : ℕ) = row % 64; omega
  · intro x hx
    fin_cases x
    · exact absurd rfl hx
    · rfl

/-- Four strips side by side times the slice of `x`: one element of what a trip leaves in the accumulator. -/
theorem pay332_apply (acc : FVec Ideal S384x512 .f32) (s : Fin 4 → FVec Ideal S1024x128 .bf16) (x : Vec Ideal S384x1024 .bf16) (m : Fin 384) (c : Fin 512) :
    k0_pay332 (F := Ideal) acc (s 0) (s 1) (s 2) (s 3) x (ix2 m c) =
      acc (ix2 m c) + ∑ r : Fin 1024, x (ix2 m r) * s ⟨c / 128, by omega⟩ (ix2 r ⟨c % 128, Nat.mod_lt _ (by norm_num)⟩) := by
  obtain ⟨t, l, h⟩ : ∃ (t : Fin 4) (l : Fin 128), (c : ℕ) = 128 * t + l := ⟨⟨c / 128, by omega⟩, ⟨c % 128, Nat.mod_lt _ (by norm_num)⟩, by show (c : ℕ) = 128 * (c / 128) + c % 128; omega⟩
  have e1 : (⟨c / 128, by omega⟩ : Fin 4) = t := Fin.ext (by show (c : ℕ) / 128 = t; omega)
  have e2 : (⟨c % 128, Nat.mod_lt _ (by norm_num)⟩ : Fin 128) = l := Fin.ext (by show (c : ℕ) % 128 = l; omega)
  rw [e1, e2]
  pointwise [k0_pay332]
  refine congrArg (acc (ix2 m c) + ·) (Finset.sum_congr rfl fun r _ => congrArg (x (ix2 m r) * ·) ?_)
  fin_cases t
  · have h' : (c : ℕ) = 128 * 0 + l := h
    rw [dif_pos (by omega)]
    exact congrArg (fun q => s 0 (ix2 r q)) (Fin.ext (by show (c : ℕ) = l; omega))
  · have h' : (c : ℕ) = 128 * 1 + l := h
    rw [dif_neg (by omega), dif_pos (by omega)]
    exact congrArg (fun q => s 1 (ix2 r q)) (Fin.ext (by show (c : ℕ) - 128 = l; omega))
  · have h' : (c : ℕ) = 128 * 2 + l := h
    rw [dif_neg (by omega), dif_neg (by omega), dif_pos (by omega)]
    exact congrArg (fun q => s 2 (ix2 r q)) (Fin.ext (by show (c : ℕ) - 128 - 128 = l; omega))
  · have h' : (c : ℕ) = 128 * 3 + l := h
    rw [dif_neg (by omega), dif_neg (by omega), dif_neg (by omega)]
    exact congrArg (fun q => s 3 (ix2 r q)) (Fin.ext (by show (c : ℕ) - 128 - 128 - 128 = l; omega))

/-- One weight: the 4-bit code `p` of word row `w` less its zero point, times its scale, in column `c` of point `n`'s strip
    of 512 columns. -/
def weight (n : Fin 8) (q : S1536x512.Idx → BitVec 32) (s : S96x512.Idx → EReal) (z : S96x128.Idx → BitVec 32) (w : Fin 1536) (p : ℕ) (c : Fin 512) : EReal :=
  (((nib (q (ix2 w c)) p : ℝ) - (nib (z (ix2 (⟨w / 16, by omega⟩ : Fin 96) (⟨(n : ℕ) % 2 * 64 + c / 8, by omega⟩ : Fin 128))) (c % 8) : ℝ) : ℝ) : EReal)
    * s (ix2 (⟨w / 16, by omega⟩ : Fin 96) c)

/-- The word row behind row `r` of trip `k`. -/
def wordRow (k : Fin k0_t2_loop.trips) (r : Fin 1024) : Fin 1536 := ⟨128 * (k : ℕ) + 8 * (r / 64) + r % 16 / 2, by have := trips_lt k; omega⟩

/-- The nibble of its word a row of a trip is. -/
def nibOf (r : Fin 1024) : ℕ := r % 64 / 16 + 4 * (r % 2)

section
variable (arg2 : Memref sig .tc .vmem S1536x512 .i32) (arg3 : Memref sig .tc .vmem S96x512 .bf16) (arg4 : Memref sig .tc .vmem S96x128 .i32)
  (arg9 : Memref sig .tc .vmem S8x512 .i32) (arg10 : Memref sig .tc .vmem S8x512 .f32) (n : Fin 8)
  (X2 : BufTy.Contents (Elt Ideal) arg2.view.ty) (X3 : BufTy.Contents (Elt Ideal) arg3.view.ty) (X4 : BufTy.Contents (Elt Ideal) arg4.view.ty)
  (k : Fin k0_t2_loop.trips)

/-- A strip of a trip holds the weights of its rows and columns. -/
theorem strip_apply (t : Fin 4) (words : Fin 16 → Vec Ideal S8x128 .i32)
    (hw : ∀ (r : Fin 16) (g : Fin 8) (l : Fin 128), words r (ix2 g l) =
      arg2.view.read (Elt Ideal) X2 (ix2 (⟨128 * (k : ℕ) + 8 * r + g, by have := trips_lt k; omega⟩ : Fin 1536) (⟨128 * (t : ℕ) + l, by omega⟩ : Fin 512)))
    (row : Fin 1024) (l : Fin 128) :
    strip (F := Ideal) arg3 arg4 arg9 arg10 (BitVec.ofNat 32 n) X3 X4 k t words (ix2 row l) =
      weight n (arg2.view.read (Elt Ideal) X2) (arg3.view.read (Elt Ideal) X3) (arg4.view.read (Elt Ideal) X4) (wordRow k row) (nibOf row) ⟨128 * (t : ℕ) + l, by omega⟩ := by
  have hk := trips_lt k
  unfold strip
  rw [stack_apply, block_apply, zeroRow_apply, scaleRow_apply, hw]
  refine congrArg₂ (· * ·) ?_ ?_
  · refine (congrArg₂ (· - ·) (half_value _ _ _ ?_ ?_) (zpack_value _ _ (Nat.mod_lt _ (by norm_num)) ?_)).trans ?_
    · show (row : ℕ) % 64 / 16 < 4; omega
    · show (row : ℕ) % 64 % 2 < 2; omega
    · show (row : ℕ) % 64 % 2 < 2; omega
    · dsimp only
      rw [← EReal.coe_sub, add_sub_add_left_eq_sub]
      refine congrArg (fun q : ℝ => (q : EReal)) (congrArg₂ (fun a b : ℕ => (a : ℝ) - (b : ℝ)) ?_ ?_)
      · refine congrArg₂ nib (congrArg (fun q => arg2.view.read (Elt Ideal) X2 (ix2 q _)) (Fin.ext ?_)) ?_
        · show 128 * (k : ℕ) + 8 * (row / 64) + row % 64 % 16 / 2 = 128 * k + 8 * (row / 64) + row % 16 / 2; omega
        · show (row : ℕ) % 64 / 16 + 4 * (row % 64 % 2) = row % 64 / 16 + 4 * (row % 2); omega
      · refine congrArg₂ nib (load_apply arg4.view X4 _ (k0_off2_inb k) _ _ (k0_off2_eq k) _ _ _ _ ?_ ?_) ?_
        · show (128 * (k : ℕ) + 8 * (row / 64) + row % 16 / 2) / 16 = 8 * k + row / 64 / 2; omega
        · show (n : ℕ) % 2 * 64 + (128 * t + l) / 8 = 0 + (n % 2 * 64 + 16 * t + l / 8); omega
        · show (l : ℕ) % 8 = (128 * t + l) % 8; omega
  · refine congrArg (fun q => arg3.view.read (Elt Ideal) X3 (ix2 q _)) (Fin.ext ?_)
    show 8 * (k : ℕ) + row / 64 / 2 = (128 * k + 8 * (row / 64) + row % 16 / 2) / 16; omega

section
variable (𝒱 : Variants) (c : Dev nD) (bd : Option 𝒱.V) (i : grid0.Coords)
  (arg1 : Memref sig .tc .vmem S384x12288 .bf16) (harg1 : arg1.IsWhole) (harg2 : arg2.IsWhole) (harg3 : arg3.IsWhole) (harg4 : arg4.IsWhole)
  (arg5 : Memref sig .tc .vmem S384x4096 .fp8e4m3) (harg5 : arg5.IsWhole) (arg6 : Memref sig .tc .vmem S1x384 .f32) (harg6 : arg6.IsWhole)
  (arg7 : Memref sig .tc .vmem S384x12288 .bf16) (harg7 : arg7.IsWhole) (arg8 : Memref sig .tc .vmem S384x4096 .f32) (harg8 : arg8.IsWhole)
  (harg9 : arg9.IsWhole) (harg10 : arg10.IsWhole) (X7 : BufTy.Contents (Elt Ideal) arg7.view.ty)
  (G9 : BufTy.Contents (Elt Ideal) arg9.view.ty) (G10 : BufTy.Contents (Elt Ideal) arg10.view.ty)

/-- One trip: each element of the accumulator gains the products of its 1024 rows. -/
theorem trip_apply (acc : FVec Ideal S384x512 .f32) (f9 : BufTy.Contents (Elt Ideal) arg9.view.ty) (f10 : BufTy.Contents (Elt Ideal) arg10.view.ty)
    (m : Fin 384) (col : Fin 512) :
    (tripR_k0_t2 (F := Ideal) 𝒱 c bd i arg1 harg1 arg2 harg2 arg3 harg3 arg4 harg4 arg5 harg5 arg6 harg6 arg7 harg7 arg8 harg8 arg9 harg9 arg10 harg10 (BitVec.ofNat 32 n) X2 X3 X4 X7 k acc f9 f10) (ix2 m col)
      = acc (ix2 m col) + ∑ r : Fin 1024, arg7.view.read (Elt Ideal) X7 (ix2 m (⟨1024 * (k : ℕ) + r, by have := trips_lt k; omega⟩ : Fin 12288))
          * weight n (arg2.view.read (Elt Ideal) X2) (arg3.view.read (Elt Ideal) X3) (arg4.view.read (Elt Ideal) X4) (wordRow k r) (nibOf r) col := by
  have hk := trips_lt k
  unfold tripR_k0_t2 trip_k0_t2
  dsimp only
  rw [strip0_eq, strip1_eq, strip2_eq, strip3_eq]
  refine (pay332_apply acc ![_, _, _, _] _ m col).trans (congrArg (acc (ix2 m col) + ·) (Finset.sum_congr rfl fun r _ => ?_))
  refine congrArg₂ (· * ·) (load_apply arg7.view X7 _ (k0_off11_inb k) _ _ (k0_off11_eq k) m r m _ (by omega) rfl) ?_
  obtain ⟨t, l, h⟩ : ∃ (t : Fin 4) (l : Fin 128), (col : ℕ) = 128 * t + l := ⟨⟨col / 128, by omega⟩, ⟨col % 128, Nat.mod_lt _ (by norm_num)⟩, by show (col : ℕ) = 128 * (col / 128) + col % 128; omega⟩
  have e1 : (⟨col / 128, by omega⟩ : Fin 4) = t := Fin.ext (by show (col : ℕ) / 128 = t; omega)
  have e2 : (⟨col % 128, Nat.mod_lt _ (by norm_num)⟩ : Fin 128) = l := Fin.ext (by show (col : ℕ) % 128 = l; omega)
  have e3 : col = ⟨128 * (t : ℕ) + l, by omega⟩ := Fin.ext h
  rw [e1, e2, e3]
  fin_cases t
  · exact strip_apply arg2 arg3 arg4 arg9 arg10 n X2 X3 X4 k 0 _ (fun r g l => load_apply arg2.view X2 _ (k0_off7_inb k r) _ _ (k0_off7_eq k r) g l _ _ rfl (by show 128 * 0 + (l : ℕ) = 0 + l; omega)) r l
  · exact strip_apply arg2 arg3 arg4 arg9 arg10 n X2 X3 X4 k 1 _ (fun r g l => load_apply arg2.view X2 _ (k0_off8_inb k r) _ _ (k0_off8_eq k r) g l _ _ rfl (by show 128 * 1 + (l : ℕ) = 128 + l; omega)) r l
  · exact strip_apply arg2 arg3 arg4 arg9 arg10 n X2 X3 X4 k 2 _ (fun r g l => load_apply arg2.view X2 _ (k0_off9_inb k r) _ _ (k0_off9_eq k r) g l _ _ rfl (by show 128 * 2 + (l : ℕ) = 256 + l; omega)) r l
  · exact strip_apply arg2 arg3 arg4 arg9 arg10 n X2 X3 X4 k 3 _ (fun r g l => load_apply arg2.view X2 _ (k0_off10_inb k r) _ _ (k0_off10_eq k r) g l _ _ rfl (by show 128 * 3 + (l : ℕ) = 384 + l; omega)) r l

/-- The row of weights behind column `L` of the permuted `x`, as a word row and a nibble. -/
def term (xp : S384x12288.Idx → EReal) (q : S1536x512.Idx → BitVec 32) (s : S96x512.Idx → EReal) (z : S96x128.Idx → BitVec 32) (m : Fin 384) (col : Fin 512) (L : ℕ) : EReal :=
  if h : L < 12288 then xp (ix2 m (⟨L, h⟩ : Fin 12288)) * weight n q s z ⟨L / 64 * 8 + L % 16 / 2, by omega⟩ (L % 64 / 16 + 4 * (L % 2)) col else 0

/-- The accumulator before trip `k` holds the products of the rows of the trips before it. -/
theorem acc_apply (k : ℕ) (hk : k ≤ 12) (m : Fin 384) (col : Fin 512) :
    (st_k0_t2 (F := Ideal) 𝒱 c bd i arg1 harg1 arg2 harg2 arg3 harg3 arg4 harg4 arg5 harg5 arg6 harg6 arg7 harg7 arg8 harg8 arg9 harg9 arg10 harg10 (BitVec.ofNat 32 n) X2 X3 X4 X7 G9 G10 (k0_pay2 (F := Ideal)) k).1 (ix2 m col)
      = ∑ L ∈ Finset.range (1024 * k), term n (arg7.view.read (Elt Ideal) X7) (arg2.view.read (Elt Ideal) X2) (arg3.view.read (Elt Ideal) X3) (arg4.view.read (Elt Ideal) X4) m col L := by
  induction k with
  | zero =>
    rw [st_k0_t2_zero, Nat.mul_zero, Finset.sum_range_zero]
    pointwise [k0_pay2]
  | succ k ih =>
    have hk' : k < k0_t2_loop.trips := lt_of_lt_of_eq hk (by decide)
    rw [show k + 1 = (⟨k, hk'⟩ : Fin k0_t2_loop.trips).val + 1 from rfl, st_k0_t2_succ]
    refine (trip_apply arg2 arg3 arg4 arg9 arg10 n X2 X3 X4 ⟨k, hk'⟩ 𝒱 c bd i arg1 harg1 harg2 harg3 harg4 arg5 harg5 arg6 harg6 arg7 harg7 arg8 harg8 harg9 harg10 X7 _ _ _ m col).trans ?_
    rw [ih (by omega), show 1024 * ((⟨k, hk'⟩ : Fin k0_t2_loop.trips).val + 1) = 1024 * k + 1024 from by show 1024 * (k + 1) = _; ring, Finset.sum_range_add, ← Fin.sum_univ_eq_sum_range (fun L => term n _ _ _ _ m col (1024 * k + L)) 1024]
    refine congrArg₂ (· + ·) rfl (Finset.sum_congr rfl fun r _ => ?_)
    have hr := r.isLt
    rw [term, dif_pos (by omega : 1024 * k + (r : ℕ) < 12288)]
    refine congrArg₂ (· * ·) rfl ?_
    have e1 : wordRow ⟨k, hk'⟩ r = ⟨(1024 * k + r) / 64 * 8 + (1024 * k + r) % 16 / 2, by omega⟩ :=
      Fin.ext (by show 128 * k + 8 * ((r : ℕ) / 64) + r % 16 / 2 = (1024 * k + r) / 64 * 8 + (1024 * k + r) % 16 / 2; omega)
    have e2 : nibOf r = (1024 * k + r) % 64 / 16 + 4 * ((1024 * k + r) % 2) := by
      show (r : ℕ) % 64 / 16 + 4 * (r % 2) = _; omega
    rw [e1, e2]

end

end

end Cert.Proof.KernelIdeal
end
-- ==== Proof.KernelIdeal.Permute.lean ====
/-
  The permuted copy of `x` the first grid point leaves in scratch.
-/
module

public import proofs.«01_k».proof.Proof.KernelIdeal.TripValue

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

/-- The lane a permuted lane is read from. -/
def lane (l : Fin 128) : Fin 128 := ⟨l / 64 * 64 + 4 * (l % 16) + l / 16 % 4, by omega⟩

/-- One slice of 128 columns, permuted. -/
theorem permute_apply (v : Vec Ideal S384x128 .bf16) (m : Fin 384) (l : Fin 128) :
    k0_pay1 (F := Ideal) v (ix2 m l) = v (ix2 m (lane l)) := by
  pointwise [k0_pay1]
  refine congrArg (fun q => v (ix2 m q)) (Fin.ext ?_)
  dsimp only [lane]
  revert l; decide +kernel

section
variable (𝒱 : Variants) (c : Dev nD) (bd : Option 𝒱.V) (i : grid0.Coords)
  (arg1 : Memref sig .tc .vmem S384x12288 .bf16) (harg1 : arg1.IsWhole) (arg2 : Memref sig .tc .vmem S1536x512 .i32) (harg2 : arg2.IsWhole)
  (arg3 : Memref sig .tc .vmem S96x512 .bf16) (harg3 : arg3.IsWhole) (arg4 : Memref sig .tc .vmem S96x128 .i32) (harg4 : arg4.IsWhole)
  (arg5 : Memref sig .tc .vmem S384x4096 .fp8e4m3) (harg5 : arg5.IsWhole) (arg6 : Memref sig .tc .vmem S1x384 .f32) (harg6 : arg6.IsWhole)
  (arg7 : Memref sig .tc .vmem S384x12288 .bf16) (harg7 : arg7.IsWhole) (arg8 : Memref sig .tc .vmem S384x4096 .f32) (harg8 : arg8.IsWhole)
  (arg9 : Memref sig .tc .vmem S8x512 .i32) (harg9 : arg9.IsWhole) (arg10 : Memref sig .tc .vmem S8x512 .f32) (harg10 : arg10.IsWhole)
  (h1 : k0_cond1 i = 1#1) (X1 : BufTy.Contents (Elt Ideal) arg1.view.ty)

/-- What one trip of the permuting loop stores. -/
theorem permute_store (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 h1 X1 k
      = [⟨Rect.unit (s := S384x12288) (k0_off1 k) S384x128.size (k0_off1_inb i k h1), k0_pay1 (F := Ideal) (View.readAt (Elt Ideal) arg1.view (Rect.unit (s := S384x12288) (k0_off1 k) S384x128.size (k0_off1_inb i k h1)).toLoadRect X1)⟩] := by
  unfold tripL_k0_t1 trip_k0_t1
  sl_unfold_run_names
  rfl

end

end Cert.Proof.KernelIdeal
end
-- ==== Proof.KernelIdeal.Pieces.lean ====
/-
  The pieces the three runs of the body write.
-/
module

public import proofs.«01_k».proof.Proof.KernelIdeal.Body

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

/-- The codes the last point makes of the accumulated rows. -/
def codesOf (A : Vec F S384x4096 .f32) : FVec F S384x4096 .fp8e4m3 :=
  k0_pay5 (k0_pay335 (k0_pay333 A) (k0_pay334 A)) (k0_pay336 (k0_pay333 A) (k0_pay334 A)) (k0_pay337 (k0_pay333 A) (k0_pay334 A)) A

/-- The scales the last point makes of the accumulated rows. -/
def scalesOf (A : Vec F S384x4096 .f32) : FVec F S1x384 .f32 :=
  k0_pay6 (k0_pay335 (k0_pay333 A) (k0_pay334 A)) (k0_pay336 (k0_pay333 A) (k0_pay334 A)) (k0_pay337 (k0_pay333 A) (k0_pay334 A))

section
variable (c : Dev nD) (i : grid0.Coords)
  (arg1 : Memref sig .tc .vmem S384x12288 .bf16) (harg1 : arg1.IsWhole) (arg2 : Memref sig .tc .vmem S1536x512 .i32) (harg2 : arg2.IsWhole)
  (arg3 : Memref sig .tc .vmem S96x512 .bf16) (harg3 : arg3.IsWhole) (arg4 : Memref sig .tc .vmem S96x128 .i32) (harg4 : arg4.IsWhole)
  (arg5 : Memref sig .tc .vmem S384x4096 .fp8e4m3) (harg5 : arg5.IsWhole) (arg6 : Memref sig .tc .vmem S1x384 .f32) (harg6 : arg6.IsWhole)
  (arg7 : Memref sig .tc .vmem S384x12288 .bf16) (harg7 : arg7.IsWhole) (arg8 : Memref sig .tc .vmem S384x4096 .f32) (harg8 : arg8.IsWhole)
  (arg9 : Memref sig .tc .vmem S8x512 .i32) (harg9 : arg9.IsWhole) (arg10 : Memref sig .tc .vmem S8x512 .f32) (harg10 : arg10.IsWhole)
  (f1 : BufTy.Contents (Elt F) arg1.view.ty) (f2 : BufTy.Contents (Elt F) arg2.view.ty) (f3 : BufTy.Contents (Elt F) arg3.view.ty)
  (f4 : BufTy.Contents (Elt F) arg4.view.ty) (f5 : BufTy.Contents (Elt F) arg5.view.ty) (f6 : BufTy.Contents (Elt F) arg6.view.ty)
  (f7 : BufTy.Contents (Elt F) arg7.view.ty) (f8 : BufTy.Contents (Elt F) arg8.view.ty) (f9 : BufTy.Contents (Elt F) arg9.view.ty)
  (f10 : BufTy.Contents (Elt F) arg10.view.ty)

/-- The 512 columns of sums the accumulation loop ends with. -/
def sums : FVec F S384x512 .f32 :=
  (st_k0_t2 (F := F) 𝒱₀ c none i arg1 harg1 arg2 harg2 arg3 harg3 arg4 harg4 arg5 harg5 arg6 harg6 arg7 harg7 arg8 harg8 arg9 harg9 arg10 harg10 (BitVec.ofNat 32 (i 0).val) f2 f3 f4 f7 f9 f10 k0_pay2 12).1

/-- The first point stores the permuted slices of `x`. -/
theorem runA_7 (hc1 : k0_cond1 i = 1#1) (hc2 : ¬ k0_cond2 i = 1#1) :
    (runA c i arg1 harg1 arg2 harg2 arg3 harg3 arg4 harg4 arg5 harg5 arg6 harg6 arg7 harg7 arg8 harg8 arg9 harg9 arg10 harg10 f1 f2 f3 f4 f7 f8 f9 f10 hc1 hc2).1 = pb_k0_t1 (F := F) 𝒱₀ c none i arg1 harg1 arg2 harg2 arg3 harg3 arg4 harg4 arg5 harg5 arg6 harg6 arg7 harg7 arg8 harg8 arg9 harg9 arg10 harg10 hc1 f1 96 := by
  rfl

/-- The first point stores its columns of sums, of the permuted `x` it has just made. -/
theorem runA_8 (hc1 : k0_cond1 i = 1#1) (hc2 : ¬ k0_cond2 i = 1#1) :
    (runA c i arg1 harg1 arg2 harg2 arg3 harg3 arg4 harg4 arg5 harg5 arg6 harg6 arg7 harg7 arg8 harg8 arg9 harg9 arg10 harg10 f1 f2 f3 f4 f7 f8 f9 f10 hc1 hc2).2.1 = [⟨Rect.unit (s := S384x4096) (k0_off12 i) S384x512.size (k0_off12_inb i), k0_pay3 (sums c i arg1 harg1 arg2 harg2 arg3 harg3 arg4 harg4 arg5 harg5 arg6 harg6 arg7 harg7 arg8 harg8 arg9 harg9 arg10 harg10 f2 f3 f4 (arg7.view.writes (Elt F) f7 (pb_k0_t1 (F := F) 𝒱₀ c none i arg1 harg1 arg2 harg2 arg3 harg3 arg4 harg4 arg5 harg5 arg6 harg6 arg7 harg7 arg8 harg8 arg9 harg9 arg10 harg10 hc1 f1 96)) f9 f10)⟩] := by
  rfl

/-- A middle point stores its columns of sums. -/
theorem runB_8 (hc1 : ¬ k0_cond1 i = 1#1) (hc2 : ¬ k0_cond2 i = 1#1) :
    (runB c i arg1 harg1 arg2 harg2 arg3 harg3 arg4 harg4 arg5 harg5 arg6 harg6 arg7 harg7 arg8 harg8 arg9 harg9 arg10 harg10 f2 f3 f4 f7 f8 f9 f10 hc1 hc2).1 = [⟨Rect.unit (s := S384x4096) (k0_off12 i) S384x512.size (k0_off12_inb i), k0_pay3 (sums c i arg1 harg1 arg2 harg2 arg3 harg3 arg4 harg4 arg5 harg5 arg6 harg6 arg7 harg7 arg8 harg8 arg9 harg9 arg10 harg10 f2 f3 f4 f7 f9 f10)⟩] := by
  rfl

/-- The last point stores its columns of sums. -/
theorem runC_8 (hc1 : ¬ k0_cond1 i = 1#1) (hc2 : k0_cond2 i = 1#1) :
    (runC c i arg1 harg1 arg2 harg2 arg3 harg3 arg4 harg4 arg5 harg5 arg6 harg6 arg7 harg7 arg8 harg8 arg9 harg9 arg10 harg10 f2 f3 f4 f5 f6 f7 f8 f9 f10 hc1 hc2).2.2.1 = [⟨Rect.unit (s := S384x4096) (k0_off12 i) S384x512.size (k0_off12_inb i), k0_pay3 (sums c i arg1 harg1 arg2 harg2 arg3 harg3 arg4 harg4 arg5 harg5 arg6 harg6 arg7 harg7 arg8 harg8 arg9 harg9 arg10 harg10 f2 f3 f4 f7 f9 f10)⟩] := by
  rfl

/-- The last point stores the codes of the accumulated rows. -/
theorem runC_5 (hc1 : ¬ k0_cond1 i = 1#1) (hc2 : k0_cond2 i = 1#1) :
    (runC c i arg1 harg1 arg2 harg2 arg3 harg3 arg4 harg4 arg5 harg5 arg6 harg6 arg7 harg7 arg8 harg8 arg9 harg9 arg10 harg10 f2 f3 f4 f5 f6 f7 f8 f9 f10 hc1 hc2).1 = [⟨Rect.unit (s := S384x4096) ![0, 0] S384x4096.size inb_S384x4096_S384x4096_0_0, codesOf (View.readAt (Elt F) arg8.view (Rect.unit (s := S384x4096) ![0, 0] S384x4096.size inb_S384x4096_S384x4096_0_0).toLoadRect (arg8.view.writes (Elt F) f8 [⟨Rect.unit (s := S384x4096) (k0_off12 i) S384x512.size (k0_off12_inb i), k0_pay3 (sums c i arg1 harg1 arg2 harg2 arg3 harg3 arg4 harg4 arg5 harg5 arg6 harg6 arg7 harg7 arg8 harg8 arg9 harg9 arg10 harg10 f2 f3 f4 f7 f9 f10)⟩]))⟩] := by
  rfl

/-- The last point stores the scales of the accumulated rows. -/
theorem runC_6 (hc1 : ¬ k0_cond1 i = 1#1) (hc2 : k0_cond2 i = 1#1) :
    (runC c i arg1 harg1 arg2 harg2 arg3 harg3 arg4 harg4 arg5 harg5 arg6 harg6 arg7 harg7 arg8 harg8 arg9 harg9 arg10 harg10 f2 f3 f4 f5 f6 f7 f8 f9 f10 hc1 hc2).2.1 = [⟨Rect.unit (s := S1x384) ![0, 0] S1x384.size inb_S1x384_S1x384_0_0, scalesOf (View.readAt (Elt F) arg8.view (Rect.unit (s := S384x4096) ![0, 0] S384x4096.size inb_S384x4096_S384x4096_0_0).toLoadRect (arg8.view.writes (Elt F) f8 [⟨Rect.unit (s := S384x4096) (k0_off12 i) S384x512.size (k0_off12_inb i), k0_pay3 (sums c i arg1 harg1 arg2 harg2 arg3 harg3 arg4 harg4 arg5 harg5 arg6 harg6 arg7 harg7 arg8 harg8 arg9 harg9 arg10 harg10 f2 f3 f4 f7 f9 f10)⟩]))⟩] := by
  rfl

end

end Cert.Proof.KernelIdeal

end
-- ==== Proof.KernelIdeal.Arrays.lean ====
/-
  What the kernel's scratch holds between grid points, as whole arrays, and how one point's stores keep it so.
-/
module

public import Idealize.ShloMosaic.Lib.WritesUnit
public import proofs.«01_k».proof.Proof.KernelIdeal.TripSum
public import proofs.«01_k».proof.Proof.KernelIdeal.Permute
public import proofs.«01_k».proof.Proof.KernelIdeal.Pieces
public import Idealize.ShloMosaic.Lib.Claim
public import Idealize.ShloMosaic.Lib.Pipeline.ValueKit

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

section
variable (m : (ℓ : Loc nD τ sig) → Buf (Elt Ideal) ℓ) (c : Dev nD)

/-- The window indices at a grid point. -/
theorem index_eq : ∀ t : Fin grid0.N, win0_0.index t = ![0, 0] ∧ win0_1.index t = ![0, t.val] ∧ win0_2.index t = ![0, t.val] ∧ win0_3.index t = ![0, t.val / 2] := by
  decide +kernel

/-- A grid point is its coordinate. -/
theorem coord_val : ∀ t : Fin grid0.N, ((grid0.coords t) 0).val = t.val := by decide

/-- `x`'s block is all of `x` at every point. -/
theorem x_block (t : Fin cfg0.N) (y : S384x12288.Idx) : iblk m c 0 t y = V m c main_v0 y := by
  blk_ext [iblk, (index_eq t).1]

/-- The packed words' block at a point is its strip of 512 columns. -/
theorem q_block (t : Fin cfg0.N) (w : Fin 1536) (col : Fin 512) (C : Fin 4096) (h : (C : ℕ) = 512 * t + col) :
    iblk m c 1 t (ix2 w col) = V m c main_arg1 (ix2 w C) := by
  blk_ext [iblk, (index_eq t).2.1]

/-- The scales' block at a point is its strip of 512 columns. -/
theorem s_block (t : Fin cfg0.N) (w : Fin 96) (col : Fin 512) (C : Fin 4096) (h : (C : ℕ) = 512 * t + col) :
    iblk m c 2 t (ix2 w col) = V m c main_arg2 (ix2 w C) := by
  blk_ext [iblk, (index_eq t).2.2.1]

/-- The zero points' block at a point is its half of 128 packed columns. -/
theorem z_block (t : Fin cfg0.N) (w : Fin 96) (q : Fin 128) (C : Fin 512) (h : (C : ℕ) = 128 * (t / 2) + q) :
    iblk m c 3 t (ix2 w q) = V m c main_arg3 (ix2 w C) := by
  blk_ext [iblk, (index_eq t).2.2.2]

end

/-- The column of `x` behind a column of the permuted `x`. -/
def src (L : Fin 12288) : Fin 12288 := ⟨L / 128 * 128 + lane ⟨L % 128, Nat.mod_lt _ (by norm_num)⟩, by have := (lane ⟨L % 128, Nat.mod_lt _ (by norm_num)⟩).isLt; omega⟩

/-- `x` with its columns permuted. -/
def xperm (X : S384x12288.Idx → EReal) (y : S384x12288.Idx) : EReal := X (ix2 (y 0) (src (y 1)))

/-- One weight of the whole matrix: the 4-bit code `p` of word row `w` less its zero point, times its scale, in column `col`. -/
def gweight (Q : S1536x4096.Idx → BitVec 32) (S : S96x4096.Idx → EReal) (Z : S96x512.Idx → BitVec 32) (w : Fin 1536) (p : ℕ) (col : Fin 4096) : EReal :=
  (((nib (Q (ix2 w col)) p : ℝ) - (nib (Z (ix2 (⟨w / 16, by omega⟩ : Fin 96) (⟨col / 8, by omega⟩ : Fin 512))) (col % 8) : ℝ) : ℝ) : EReal)
    * S (ix2 (⟨w / 16, by omega⟩ : Fin 96) col)

/-- The product with the permuted column `L` of `x`. -/
def gterm (X : S384x12288.Idx → EReal) (Q : S1536x4096.Idx → BitVec 32) (S : S96x4096.Idx → EReal) (Z : S96x512.Idx → BitVec 32) (r : Fin 384) (col : Fin 4096) (L : ℕ) : EReal :=
  if h : L < 12288 then xperm X (ix2 r (⟨L, h⟩ : Fin 12288)) * gweight Q S Z ⟨L / 64 * 8 + L % 16 / 2, by omega⟩ (L % 64 / 16 + 4 * (L % 2)) col else 0

/-- The whole product. -/
def accum (X : S384x12288.Idx → EReal) (Q : S1536x4096.Idx → BitVec 32) (S : S96x4096.Idx → EReal) (Z : S96x512.Idx → BitVec 32) (y : S384x4096.Idx) : EReal :=
  ∑ L ∈ Finset.range 12288, gterm X Q S Z (y 0) (y 1) L

section
variable (m : (ℓ : Loc nD τ sig) → Buf (Elt Ideal) ℓ) (c : Dev nD) (i : grid0.Coords)
  (arg1 : Memref sig .tc .vmem S384x12288 .bf16) (harg1 : arg1.IsWhole) (arg2 : Memref sig .tc .vmem S1536x512 .i32) (harg2 : arg2.IsWhole)
  (arg3 : Memref sig .tc .vmem S96x512 .bf16) (harg3 : arg3.IsWhole) (arg4 : Memref sig .tc .vmem S96x128 .i32) (harg4 : arg4.IsWhole)
  (arg5 : Memref sig .tc .vmem S384x4096 .fp8e4m3) (harg5 : arg5.IsWhole) (arg6 : Memref sig .tc .vmem S1x384 .f32) (harg6 : arg6.IsWhole)
  (arg7 : Memref sig .tc .vmem S384x12288 .bf16) (harg7 : arg7.IsWhole) (arg8 : Memref sig .tc .vmem S384x4096 .f32) (harg8 : arg8.IsWhole)
  (arg9 : Memref sig .tc .vmem S8x512 .i32) (harg9 : arg9.IsWhole) (arg10 : Memref sig .tc .vmem S8x512 .f32) (harg10 : arg10.IsWhole)
  (f1 : BufTy.Contents (Elt Ideal) arg1.view.ty) (f2 : BufTy.Contents (Elt Ideal) arg2.view.ty) (f3 : BufTy.Contents (Elt Ideal) arg3.view.ty)
  (f4 : BufTy.Contents (Elt Ideal) arg4.view.ty) (f7 : BufTy.Contents (Elt Ideal) arg7.view.ty) (f8 : BufTy.Contents (Elt Ideal) arg8.view.ty)
  (f9 : BufTy.Contents (Elt Ideal) arg9.view.ty) (f10 : BufTy.Contents (Elt Ideal) arg10.view.ty)

/-- The permuting loop's stores before trip `k` are the permuted slices before it. -/
theorem permute_stores (h1 : k0_cond1 i = 1#1) (k : ℕ) (hk : k ≤ 96) :
    (∀ p ∈ pb_k0_t1 (F := Ideal) 𝒱₀ c none i arg1 harg1 arg2 harg2 arg3 harg3 arg4 harg4 arg5 harg5 arg6 harg6 arg7 harg7 arg8 harg8 arg9 harg9 arg10 harg10 h1 f1 k, ∀ x : p.1.shape.Idx, p.2 x = xperm (arg1.view.read (Elt Ideal) f1) (p.1.emb x))
    ∧ ∀ y : S384x12288.Idx, (y 1 : ℕ) < 128 * k → ∃ p ∈ pb_k0_t1 (F := Ideal) 𝒱₀ c none i arg1 harg1 arg2 harg2 arg3 harg3 arg4 harg4 arg5 harg5 arg6 harg6 arg7 harg7 arg8 harg8 arg9 harg9 arg10 harg10 h1 f1 k, y ∈ p.1.set := by
  induction k with
  | zero => exact ⟨fun p hp => absurd hp List.not_mem_nil, fun y hy => absurd hy (by omega)⟩
  | succ k ih =>
    have hk' : k < k0_t1_loop.trips := lt_of_lt_of_eq hk (by decide)
    obtain ⟨ih1, ih2⟩ := ih (by omega)
    rw [show k + 1 = (⟨k, hk'⟩ : Fin k0_t1_loop.trips).val + 1 from rfl, pb_k0_t1_succ, permute_store]
    constructor
    · intro p hp x
      rcases List.mem_cons.mp hp with rfl | hp
      · obtain ⟨r, l, rfl⟩ : ∃ (r : Fin 384) (l : Fin 128), x = ix2 r l := ⟨x 0, x 1, eq_ix2 x⟩
        have e := k0_off1_eq ⟨k, hk'⟩
        have e0 : (((Rect.unit (s := S384x12288) (k0_off1 ⟨k, hk'⟩) S384x128.size (k0_off1_inb i ⟨k, hk'⟩ h1)).emb (ix2 r l)) 0 : ℕ) = r := by
          refine (Rect.emb_apply _ _ _).trans ?_
          show k0_off1 ⟨k, hk'⟩ 0 + 1 * (r : ℕ) = r
          rw [congrFun e 0]; show 0 + 1 * (r : ℕ) = r; omega
        have e1 : (((Rect.unit (s := S384x12288) (k0_off1 ⟨k, hk'⟩) S384x128.size (k0_off1_inb i ⟨k, hk'⟩ h1)).emb (ix2 r l)) 1 : ℕ) = 128 * k + l := by
          refine (Rect.emb_apply _ _ _).trans ?_
          show k0_off1 ⟨k, hk'⟩ 1 + 1 * (l : ℕ) = 128 * k + l
          rw [congrFun e 1]; show 128 * k + 1 * (l : ℕ) = 128 * k + l; omega
        refine (permute_apply _ r l).trans ?_
        refine (load_apply arg1.view f1 _ _ 0 (128 * k) e r (lane l) _ _ ?_ ?_).trans rfl
        · exact e0.trans (by omega)
        · unfold src
          show _ / 128 * 128 + (lane ⟨_ % 128, _⟩ : ℕ) = _
          have hl : (⟨(((Rect.unit (s := S384x12288) (k0_off1 ⟨k, hk'⟩) S384x128.size (k0_off1_inb i ⟨k, hk'⟩ h1)).emb (ix2 r l)) 1 : ℕ) % 128, Nat.mod_lt _ (by norm_num)⟩ : Fin 128) = l := Fin.ext (by show _ % 128 = _; rw [e1]; omega)
          exact (congrArg₂ (fun a (b : Fin 128) => a / 128 * 128 + (lane b : ℕ)) e1 hl).trans (by show (128 * k + (l : ℕ)) / 128 * 128 + (lane l : ℕ) = _; omega)
      · exact ih1 p hp x
    · intro y hy
      by_cases h : (y 1 : ℕ) < 128 * k
      · obtain ⟨p, hp, hy⟩ := ih2 y h
        exact ⟨p, List.mem_cons_of_mem _ hp, hy⟩
      · have e := k0_off1_eq ⟨k, hk'⟩
        have hy' : (y 1 : ℕ) < 128 * (k + 1) := hy
        have hm : y ∈ (Rect.unit (s := S384x12288) (k0_off1 ⟨k, hk'⟩) S384x128.size (k0_off1_inb i ⟨k, hk'⟩ h1)).set := by
          refine Rect.mem_set_unit.mpr fun a => ?_
          rw [congrFun e a]
          fin_cases a
          · show 0 ≤ (y 0 : ℕ) ∧ (y 0 : ℕ) < 0 + 384
            have : (y 0 : ℕ) < 384 := (y 0).isLt
            omega
          · show 128 * k ≤ (y 1 : ℕ) ∧ (y 1 : ℕ) < 128 * k + 128
            omega
        exact ⟨_, List.mem_cons_self, hm⟩

/-- After the permuting loop the scratch holds the permuted `x`. -/
theorem permuted (h1 : k0_cond1 i = 1#1) (y : S384x12288.Idx) :
    arg7.view.read (Elt Ideal) (arg7.view.writes (Elt Ideal) f7 (pb_k0_t1 (F := Ideal) 𝒱₀ c none i arg1 harg1 arg2 harg2 arg3 harg3 arg4 harg4 arg5 harg5 arg6 harg6 arg7 harg7 arg8 harg8 arg9 harg9 arg10 harg10 h1 f1 96)) y = xperm (arg1.view.read (Elt Ideal) f1) y :=
  View.read_writes_apply_of_pieces _ _ _ _ (permute_stores c i arg1 harg1 arg2 harg2 arg3 harg3 arg4 harg4 arg5 harg5 arg6 harg6 arg7 harg7 arg8 harg8 arg9 harg9 arg10 harg10 f1 h1 96 le_rfl).1 y
    ((permute_stores c i arg1 harg1 arg2 harg2 arg3 harg3 arg4 harg4 arg5 harg5 arg6 harg6 arg7 harg7 arg8 harg8 arg9 harg9 arg10 harg10 f1 h1 96 le_rfl).2 y (y 1).isLt)

/-- A point's columns of sums are its columns of the whole product. -/
theorem sums_apply (t : Fin grid0.N) (X7 : BufTy.Contents (Elt Ideal) arg7.view.ty)
    (h2 : arg2.view.read (Elt Ideal) f2 = iblk m c 1 t) (h3 : arg3.view.read (Elt Ideal) f3 = iblk m c 2 t) (h4 : arg4.view.read (Elt Ideal) f4 = iblk m c 3 t)
    (h7 : ∀ y, arg7.view.read (Elt Ideal) X7 y = xperm (V m c main_v0) y) (r : Fin 384) (col : Fin 512) (C : Fin 4096) (hC : (C : ℕ) = 512 * t + col) :
    sums (F := Ideal) c (grid0.coords t) arg1 harg1 arg2 harg2 arg3 harg3 arg4 harg4 arg5 harg5 arg6 harg6 arg7 harg7 arg8 harg8 arg9 harg9 arg10 harg10 f2 f3 f4 X7 f9 f10 (ix2 r col)
      = accum (V m c main_v0) (V m c main_arg1) (V m c main_arg2) (V m c main_arg3) (ix2 r C) := by
  unfold sums
  refine (acc_apply arg2 arg3 arg4 arg9 arg10 ⟨((grid0.coords t) 0).val, ((grid0.coords t) 0).isLt⟩ f2 f3 f4 𝒱₀ c none (grid0.coords t) arg1 harg1 harg2 harg3 harg4 arg5 harg5 arg6 harg6 arg7 harg7 arg8 harg8 harg9 harg10 X7 f9 f10 12 le_rfl r col).trans ?_
  unfold accum
  refine Finset.sum_congr rfl fun L hL => ?_
  have hL' : L < 12288 := Finset.mem_range.mp hL
  refine (dif_pos hL').trans (Eq.trans ?_ (dif_pos hL').symm)
  rw [h7, h2, h3, h4]
  refine congrArg₂ (· * ·) rfl ?_
  have ht : (t : ℕ) < 8 := lt_of_lt_of_eq t.isLt N_0
  have hc := coord_val t
  unfold weight gweight
  rw [q_block m c t _ col C hC, s_block m c t _ col C hC, z_block m c t _ _ (⟨C / 8, by omega⟩ : Fin 512) (by
    show (C : ℕ) / 8 = 128 * (t / 2) + (((grid0.coords t) 0).val % 2 * 64 + col / 8); omega),
    show (col : ℕ) % 8 = C % 8 by omega]
  rfl

/-- A point's store of its columns extends what the accumulator holds of the whole product. -/
theorem columns (t : Fin grid0.N) (w : FVec Ideal S384x512 .f32) (G : S384x4096.Idx → EReal)
    (hw : ∀ (r : Fin 384) (col : Fin 512) (C : Fin 4096), (C : ℕ) = 512 * t + col → w (ix2 r col) = G (ix2 r C))
    (h8 : ∀ y : S384x4096.Idx, (y 1 : ℕ) < 512 * t → arg8.view.read (Elt Ideal) f8 y = G y)
    (y : S384x4096.Idx) (hy : (y 1 : ℕ) < 512 * (t + 1)) :
    arg8.view.read (Elt Ideal) (arg8.view.writes (Elt Ideal) f8 [⟨Rect.unit (s := S384x4096) (k0_off12 (grid0.coords t)) S384x512.size (k0_off12_inb (grid0.coords t)), k0_pay3 (F := Ideal) w⟩]) y = G y := by
  have e := (k0_off12_eq (grid0.coords t)).trans (congrArg (fun n => ![0, 512 * n]) (coord_val t))
  by_cases h : (y 1 : ℕ) < 512 * t
  · exact (View.read_writes_cons_unit_of_not_mem arg8.view f8 _ _ _ y e 1 (Or.inl h)).trans (h8 y h)
  · refine (View.read_writes_cons_unit_of_mem arg8.view f8 _ _ _ y (ix2 (y 0) (⟨(y 1 : ℕ) - 512 * t, by omega⟩ : Fin 512)) e (fun a => ?_)).trans ?_
    · fin_cases a
      · show (y 0 : ℕ) = 0 + (y 0 : ℕ); omega
      · show (y 1 : ℕ) = 512 * t + ((y 1 : ℕ) - 512 * t); omega
    · have e3 : k0_pay3 (F := Ideal) w = w := by unfold k0_pay3; exact shapeCast_self _ _
      exact (congrFun e3 _).trans ((hw _ _ (y 1) (by show (y 1 : ℕ) = 512 * t + ((y 1 : ℕ) - 512 * t); omega)).trans (congrArg G (eq_ix2 y).symm))

end

end Cert.Proof.KernelIdeal
end
-- ==== Proof.KernelIdeal.Quant.lean ====
/-
  The row scale the kernel finds by binary search, at exact arithmetic.
-/
module

public import proofs.«01_k».proof.Proof.KernelIdeal.Pieces
public import Idealize.ShloMosaic.Lib.Pointwise

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

/-- The float whose exponent field is `k`. -/
def pow (k : ℕ) : EReal := Ideal.ofBits .f32 (BitVec.ofNat 32 k <<< 23)

/-- A float word without sign or fraction bits, by its exponent field. -/
theorem ieee_pow (b : BitVec 32) (k : ℕ) (h1 : 1 ≤ k) (h2 : k ≤ 254) (e1 : b.extractLsb' 31 1 = 0#1) (e2 : (b.extractLsb' 23 8).toNat = k)
    (e3 : (b.extractLsb' 0 23).toNat = 0) : Ideal.ieee 8 23 b = (((2 : ℝ) ^ ((k : ℤ) - 127) : ℝ) : EReal) := by
  unfold Ideal.ieee
  simp only [Nat.reduceAdd, e1, e2, e3]
  rw [if_neg (by norm_num; omega), if_neg (by omega)]
  refine congrArg _ ?_
  have : ((k : ℤ) - (2 ^ (8 - 1) - 1) - ((23 : ℕ) : ℤ)) = ((k : ℤ) - 127) - 23 := by norm_num
  rw [this, zpow_sub₀ (by norm_num : (2 : ℝ) ≠ 0)]
  norm_num
  ring

/-- The words' fields. -/
theorem fields (k : Fin 255) : (BitVec.ofNat 32 k <<< 23).extractLsb' 31 1 = 0#1 ∧ ((BitVec.ofNat 32 k <<< 23).extractLsb' 23 8).toNat = k
    ∧ ((BitVec.ofNat 32 k <<< 23).extractLsb' 0 23).toNat = 0 := by
  revert k; decide +kernel

/-- In the normal range it is a power of two. -/
theorem pow_eq (k : ℕ) (h1 : 1 ≤ k) (h2 : k ≤ 254) : pow k = (((2 : ℝ) ^ ((k : ℤ) - 127) : ℝ) : EReal) :=
  ieee_pow _ k h1 h2 (fields ⟨k, by omega⟩).1 (fields ⟨k, by omega⟩).2.1 (fields ⟨k, by omega⟩).2.2

/-- The last one is infinity. -/
theorem pow_top : pow 255 = ⊤ := by
  unfold pow; simp [Ideal.ofBits, Ideal.ieee]

/-- One bit of the search. -/
def bit (t : FVec Ideal S384x1 .f32) (f : IVec S384x1 32) (b : BitVec 32) : IVec S384x1 32 :=
  select (cmpf .oge t (bitcastToFloat .f32 (shli (addi f (broadcast S384x1 b)) (broadcast S384x1 23#32)))) (addi f (broadcast S384x1 b)) f

/-- One bit of the search, at a row. -/
theorem bit_apply (t : FVec Ideal S384x1 .f32) (f : IVec S384x1 32) (b n : ℕ) (r : Fin 384) (hf : f (ix2 r 0) = BitVec.ofNat 32 n) :
    bit t f (BitVec.ofNat 32 b) (ix2 r 0) = BitVec.ofNat 32 (if pow (n + b) ≤ t (ix2 r 0) then n + b else n) := by
  pointwise [bit]
  rw [hf]
  have e : (IntOp.addi (BitVec.ofNat 32 n) (BitVec.ofNat 32 b)) = BitVec.ofNat 32 (n + b) := (BitVec.ofNat_add n b).symm
  have e' : IntOp.shli ArithUnit.vector (BitVec.ofNat 32 (n + b)) 23#32 = BitVec.ofNat 32 (n + b) <<< 23 := rfl
  rw [e, e']
  by_cases h : pow (n + b) ≤ t (ix2 r 0)
  · rw [if_pos h]; exact if_pos h
  · rw [if_neg h]; exact if_neg h

/-- The first half of the kernel's search: the four high bits. -/
theorem first_bits (A : Vec Ideal S384x4096 .f32) :
    k0_pay334 A = bit (k0_pay333 A) (bit (k0_pay333 A) (bit (k0_pay333 A) (bit (k0_pay333 A) (broadcast S384x1 0#32) 128#32) 64#32) 32#32) 16#32 := rfl

/-- The second half: the four low bits, then every field from 253 on made the last one. -/
theorem last_bits (t : FVec Ideal S384x1 .f32) (f : IVec S384x1 32) :
    k0_pay335 t f = select (cmpi .sge (bit t (bit t (bit t (bit t f 8#32) 4#32) 2#32) 1#32) (broadcast S384x1 253#32)) (broadcast S384x1 255#32)
      (bit t (bit t (bit t (bit t f 8#32) 4#32) 2#32) 1#32) := rfl

/-- One bit of the search, on one row's value. -/
def sbit (t : EReal) (b n : ℕ) : ℕ := if pow (n + b) ≤ t then n + b else n

/-- The search on one row's value: the exponent field of the greatest power of two not above it, `0` if there is none. -/
def search (t : EReal) : ℕ := sbit t 1 (sbit t 2 (sbit t 4 (sbit t 8 (sbit t 16 (sbit t 32 (sbit t 64 (sbit t 128 0)))))))

/-- What a bit of the search keeps: the value found is not above `t`, and `t` lies below the end of the range left. -/
theorem sbit_inv (t : EReal) (b n : ℕ) (h1 : n = 0 ∨ pow n ≤ t) (h2 : n + 2 * b = 256 ∨ n + 2 * b < 256 ∧ t < pow (n + 2 * b)) :
    (sbit t b n = 0 ∨ pow (sbit t b n) ≤ t) ∧ (sbit t b n + b = 256 ∨ sbit t b n + b < 256 ∧ t < pow (sbit t b n + b)) := by
  unfold sbit
  by_cases h : pow (n + b) ≤ t
  · rw [if_pos h]
    refine ⟨Or.inr h, ?_⟩
    rw [show n + b + b = n + 2 * b by ring]
    exact h2
  · rw [if_neg h]
    refine ⟨h1, ?_⟩
    by_cases hb : n + b = 256
    · exact Or.inl hb
    · exact Or.inr ⟨by rcases h2 with h2 | h2 <;> omega, not_le.mp h⟩

/-- What the search finds. -/
theorem search_spec (t : EReal) : (search t = 0 ∨ pow (search t) ≤ t) ∧ (search t + 1 = 256 ∨ search t + 1 < 256 ∧ t < pow (search t + 1)) := by
  have h := sbit_inv t 128 0 (Or.inl rfl) (Or.inl rfl)
  have h := sbit_inv t 64 _ h.1 h.2
  have h := sbit_inv t 32 _ h.1 h.2
  have h := sbit_inv t 16 _ h.1 h.2
  have h := sbit_inv t 8 _ h.1 h.2
  have h := sbit_inv t 4 _ h.1 h.2
  have h := sbit_inv t 2 _ h.1 h.2
  exact sbit_inv t 1 _ h.1 h.2

/-- A row's largest magnitude over 448, as the kernel computes it. -/
def rowMax (A : Vec Ideal S384x4096 .f32) (r : Fin 384) : EReal := k0_pay333 A (ix2 r 0)

/-- The search's result in the kernel. -/
theorem field_apply (A : Vec Ideal S384x4096 .f32) (r : Fin 384) :
    k0_pay335 (k0_pay333 A) (k0_pay334 A) (ix2 r 0) = if 253 ≤ search (rowMax A r) then 255#32 else BitVec.ofNat 32 (search (rowMax A r)) := by
  rw [last_bits, first_bits]
  have h := bit_apply (k0_pay333 A) (broadcast S384x1 0#32) 128 0 r rfl
  have h := bit_apply (k0_pay333 A) _ 64 _ r h
  have h := bit_apply (k0_pay333 A) _ 32 _ r h
  have h := bit_apply (k0_pay333 A) _ 16 _ r h
  have h := bit_apply (k0_pay333 A) _ 8 _ r h
  have h := bit_apply (k0_pay333 A) _ 4 _ r h
  have h := bit_apply (k0_pay333 A) _ 2 _ r h
  have h : _ = BitVec.ofNat 32 (search (rowMax A r)) := bit_apply (k0_pay333 A) _ 1 _ r h
  have hs : search (rowMax A r) < 256 := by
    rcases (search_spec (rowMax A r)).2 with h | h <;> omega
  have e : ∀ n : Fin 256, Scalar.select (IntOp.cmpi .sge (BitVec.ofNat 32 n) 253#32) 255#32 (BitVec.ofNat 32 n) = if 253 ≤ (n : ℕ) then 255#32 else BitVec.ofNat 32 n := by
    decide +kernel
  refine Eq.trans ?_ (e ⟨search (rowMax A r), hs⟩)
  pointwise []
  rw [h]

/-- A row's exponent: that of the power of two above the row's value, `0` where the value is out of range. -/
def expo (t : EReal) : ℤ := if 1 ≤ search t ∧ search t ≤ 252 then (search t : ℤ) - 126 else 0

/-- The exponent the kernel makes of a field `f`: `0` for the fields `0` and `255`. -/
def expoWord (f : BitVec 32) : BitVec 32 :=
  Scalar.select (IntOp.ori (IntOp.cmpi .eq f 0#32) (IntOp.cmpi .eq f 255#32)) 0#32 (IntOp.subi f 126#32)

/-- The scale's word. -/
def scaleWord (f : BitVec 32) : BitVec 32 := IntOp.shli ArithUnit.vector (IntOp.addi (expoWord f) 127#32) 23#32

/-- The word of the scale's reciprocal. -/
def inverseWord (f : BitVec 32) : BitVec 32 := IntOp.shli ArithUnit.vector (IntOp.subi 127#32 (expoWord f)) 23#32

/-- Both words, by the search's result. -/
theorem words : ∀ n : Fin 256, scaleWord (if 253 ≤ (n : ℕ) then 255#32 else BitVec.ofNat 32 n) = BitVec.ofNat 32 (if 1 ≤ (n : ℕ) ∧ (n : ℕ) ≤ 252 then n + 1 else 127) <<< 23
    ∧ inverseWord (if 253 ≤ (n : ℕ) then 255#32 else BitVec.ofNat 32 n) = BitVec.ofNat 32 (if 1 ≤ (n : ℕ) ∧ (n : ℕ) ≤ 252 then 253 - n else 127) <<< 23 := by
  decide +kernel

/-- The scale's float, by the search's result. -/
theorem scale_word (n : ℕ) (h : n < 256) : Ideal.ofBits .f32 (scaleWord (if 253 ≤ n then 255#32 else BitVec.ofNat 32 n)) = pow (if 1 ≤ n ∧ n ≤ 252 then n + 1 else 127) := by
  have e := (words ⟨n, h⟩).1
  dsimp only at e
  rw [e]; rfl

/-- The reciprocal's float, by the search's result. -/
theorem inverse_word (n : ℕ) (h : n < 256) : Ideal.ofBits .f32 (inverseWord (if 253 ≤ n then 255#32 else BitVec.ofNat 32 n)) = pow (if 1 ≤ n ∧ n ≤ 252 then 253 - n else 127) := by
  have e := (words ⟨n, h⟩).2
  dsimp only at e
  rw [e]; rfl

/-- The floats without sign or fraction bits are ordered as their exponent fields. -/
theorem pow_mono (a b : ℕ) (ha : 1 ≤ a) (hab : a ≤ b) (hb : b ≤ 255) : pow a ≤ pow b := by
  by_cases h : b = 255
  · rw [h, pow_top]; exact le_top
  · rw [pow_eq a ha (by omega), pow_eq b (by omega) (by omega), EReal.coe_le_coe_iff]
    exact zpow_le_zpow_right₀ (by norm_num) (by omega)

/-- The exponent by logarithms: in the range that has one, the greatest integer not above the base-2 logarithm, plus one. -/
theorem expo_log (t : EReal) :
    Scalar.select (IntOp.andi (BitVec.ofBool (decide (pow 1 ≤ t))) (BitVec.ofBool (decide (t < pow 253))))
      (Ideal.liftRound Int.floor (Ideal.div (Ideal.log t) (Ideal.log (pow 128))) + 1) (0 : EReal) = ((expo t : ℝ) : EReal) := by
  obtain ⟨s1, s2⟩ := search_spec t
  unfold expo
  generalize search t = n at s1 s2
  by_cases h : 1 ≤ n ∧ n ≤ 252
  · have h1 : pow n ≤ t := s1.resolve_left (by omega)
    have h2 : t < pow (n + 1) := (s2.resolve_left (by omega)).2
    have g1 : pow 1 ≤ t := (pow_mono 1 n le_rfl h.1 (by omega)).trans h1
    have g2 : t < pow 253 := h2.trans_le (pow_mono _ _ (by omega) (by omega) (by omega))
    rw [if_pos h, decide_eq_true g1, decide_eq_true g2]
    refine Eq.trans (b := Ideal.liftRound Int.floor (Ideal.div (Ideal.log t) (Ideal.log (pow 128))) + 1) rfl ?_
    rw [pow_eq n h.1 (by omega)] at h1
    rw [pow_eq (n + 1) (by omega) (by omega)] at h2
    induction t using EReal.rec with
    | bot => exact absurd h1 (not_le.mpr (EReal.bot_lt_coe _))
    | top => exact absurd h2 not_top_lt
    | coe r =>
      rw [EReal.coe_le_coe_iff] at h1
      rw [EReal.coe_lt_coe_iff] at h2
      have hr : 0 < r := lt_of_lt_of_le (by positivity) h1
      have hl : 0 < Real.log 2 := Real.log_pos (by norm_num)
      have e1 : Ideal.log (r : EReal) = (Real.log r : EReal) := if_neg (not_le.mpr hr)
      have e2 : Ideal.log (pow 128) = (Real.log 2 : EReal) := by
        rw [pow_eq 128 (by norm_num) (by norm_num), show ((2 : ℝ) ^ (((128 : ℕ) : ℤ) - 127)) = 2 by norm_num]
        exact if_neg (by norm_num)
      have e3 : Ideal.div (Real.log r : EReal) (Real.log 2 : EReal) = ((Real.log r / Real.log 2 : ℝ) : EReal) := by
        unfold Ideal.div
        rw [if_neg (by rw [EReal.coe_eq_zero]; exact hl.ne'), ← EReal.coe_inv, ← EReal.coe_mul, div_eq_mul_inv]
      have e4 : ⌊Real.log r / Real.log 2⌋ = (n : ℤ) - 127 := by
        rw [Int.floor_eq_iff]
        have a1 := Real.log_le_log (by positivity) h1
        have a2 := Real.log_lt_log hr h2
        rw [Real.log_zpow] at a1 a2
        constructor
        · rw [le_div_iff₀ hl]; exact a1
        · rw [div_lt_iff₀ hl]
          refine a2.trans_eq ?_
          push_cast; ring
      rw [e1, e2, e3]
      show (((⌊Real.log r / Real.log 2⌋ : ℤ) : ℝ) : EReal) + 1 = _
      rw [e4, ← EReal.coe_one, ← EReal.coe_add]
      refine congrArg _ ?_
      push_cast; ring
  · rw [if_neg h]
    have hz : ((((0 : ℤ) : ℝ)) : EReal) = 0 := by norm_num
    rw [hz]
    by_cases h0 : n = 0
    · have g : ¬ pow 1 ≤ t := by
        rcases s2 with s2 | s2
        · omega
        · rw [h0] at s2; exact not_le.mpr s2.2
      rw [decide_eq_false g]
      generalize decide (t < pow 253) = d
      cases d <;> rfl
    · have h1 : pow n ≤ t := s1.resolve_left h0
      have g : ¬ t < pow 253 := not_lt.mpr ((pow_mono 253 n (by norm_num) (by omega) (by omega)).trans h1)
      rw [decide_eq_false g]
      generalize decide (pow 1 ≤ t) = d
      cases d <;> rfl

/-- Two to an integer exponent. -/
theorem two_pow (z : ℤ) : Ideal.pow (pow 128) ((z : ℝ) : EReal) = (((2 : ℝ) ^ z : ℝ) : EReal) := by
  rw [pow_eq 128 (by norm_num) (by norm_num), show ((2 : ℝ) ^ (((128 : ℕ) : ℤ) - 127)) = 2 by norm_num]
  show ((Real.rpow 2 (z : ℝ) : ℝ) : EReal) = _
  exact congrArg _ (Real.rpow_intCast 2 z)

/-- The search's result is a field. -/
theorem search_lt (t : EReal) : search t < 256 := by
  rcases (search_spec t).2 with h | h <;> omega

/-- The scale's float. -/
theorem pow_scale (t : EReal) : pow (if 1 ≤ search t ∧ search t ≤ 252 then search t + 1 else 127) = (((2 : ℝ) ^ expo t : ℝ) : EReal) := by
  unfold expo
  by_cases h : 1 ≤ search t ∧ search t ≤ 252
  · rw [if_pos h, if_pos h, pow_eq _ (by omega) (by omega)]
    exact congrArg (fun z : ℤ => (((2 : ℝ) ^ z : ℝ) : EReal)) (by push_cast; ring)
  · rw [if_neg h, if_neg h, pow_eq _ (by omega) (by omega)]
    exact congrArg (fun z : ℤ => (((2 : ℝ) ^ z : ℝ) : EReal)) (by norm_num)

/-- Its reciprocal's. -/
theorem pow_inverse (t : EReal) : pow (if 1 ≤ search t ∧ search t ≤ 252 then 253 - search t else 127) = (((2 : ℝ) ^ (-expo t) : ℝ) : EReal) := by
  unfold expo
  by_cases h : 1 ≤ search t ∧ search t ≤ 252
  · rw [if_pos h, if_pos h, pow_eq _ (by omega) (by omega)]
    exact congrArg (fun z : ℤ => (((2 : ℝ) ^ z : ℝ) : EReal)) (by omega)
  · rw [if_neg h, if_neg h, pow_eq _ (by omega) (by omega)]
    exact congrArg (fun z : ℤ => (((2 : ℝ) ^ z : ℝ) : EReal)) (by norm_num)

/-- A row's largest magnitude over 448. -/
theorem rowMax_apply (A : Vec Ideal S384x4096 .f32) (r : Fin 384) :
    rowMax A r = Finset.fold max (Ideal.ofBits FTy.f32 4286578688#32) (fun x => FloatOps.absf (A (ix2 r x))) Finset.univ * Ideal.ofBits FTy.f32 991054117#32 := by
  unfold rowMax
  pointwise [k0_pay333]

/-- A row's scale: two to the row's exponent. -/
theorem scale_apply (A : Vec Ideal S384x4096 .f32) (r : Fin 384) : scalesOf A (ix2 0 r) = (((2 : ℝ) ^ expo (rowMax A r) : ℝ) : EReal) := by
  pointwise [scalesOf, k0_pay6, k0_pay4, k0_pay336, k0_pay337]
  rw [field_apply]
  have e := scale_word _ (search_lt (rowMax A r))
  unfold scaleWord expoWord at e
  rw [e, pow_scale]

/-- A code: the accumulated product over the row's scale, clipped. -/
theorem code_apply (A : Vec Ideal S384x4096 .f32) (r : Fin 384) (n : Fin 4096) : codesOf A (ix2 r n)
    = min (Ideal.ofBits FTy.f32 1138753536#32) (max (Ideal.ofBits FTy.f32 3286237184#32) (A (ix2 r n) * (((2 : ℝ) ^ (-expo (rowMax A r)) : ℝ) : EReal))) := by
  pointwise [codesOf, k0_pay5, k0_pay4, k0_pay336, k0_pay337]
  rw [field_apply]
  have e := inverse_word _ (search_lt (rowMax A r))
  unfold inverseWord expoWord at e
  rw [e, pow_inverse]

end Cert.Proof.KernelIdeal

end
-- ==== Proof.ReferenceIdeal.Terms.lean ====
/-
  The reference's lines, as functions of what they read.
-/
module

public import proofs.«01_k».proof.Proof.Gen.ReferenceIdeal.Frame
public import Idealize.ShloMosaic.Lib.Pointwise

@[expose] public section

set_option maxRecDepth 65536

noncomputable section

namespace Cert.Proof.ReferenceIdeal

open Cert.ReferenceIdeal Cert.ReferenceIdeal.Gen
open Idealize.ShloMosaic Idealize.ShloMosaic.TcCoe Idealize.ShloMosaic.Tactic

/-- The eight shifts `0, 4, …, 28`. -/
def shifts : IVec S8 32 := muli (broadcastInDim S8 ![] bcast_S_S8 (constantI S_ 32 4#32)) (iotaInDim S8 32 0)

/-- The zero points. -/
def zeros (Z : IVec S96x512 32) : FVec Ideal S96x4096 .bf16 :=
  sitofp .bf16 (shapeCast S96x4096 (andi (Host.shrsi (broadcastInDim S96x512x8 ![0, 1, 2] bcast_S96x512x1_S96x512x8_0_1_2 (broadcastInDim S96x512x1 ![0, 1] bcast_S96x512_S96x512x1_0_1 Z))
      (broadcastInDim S96x512x8 ![0, 1, 2] bcast_S1x1x8_S96x512x8_0_1_2 (broadcastInDim S1x1x8 ![2] bcast_S8_S1x1x8_2 shifts)))
    (broadcastInDim S96x512x8 ![] bcast_S_S96x512x8 (constantI S_ 32 15#32))) shapeCasts_S96x512x8_S96x4096)

/-- The codes, one plane a nibble. -/
def planes (Q : IVec S1536x4096 32) : FVec Ideal S8x1536x4096 .bf16 :=
  sitofp .bf16 (andi (Host.shrsi (broadcastInDim S8x1536x4096 ![0, 1, 2] bcast_S1x1536x4096_S8x1536x4096_0_1_2 (broadcastInDim S1x1536x4096 ![1, 2] bcast_S1536x4096_S1x1536x4096_1_2 Q))
      (broadcastInDim S8x1536x4096 ![0, 1, 2] bcast_S8x1x1_S8x1536x4096_0_1_2 (broadcastInDim S8x1x1 ![0] bcast_S8_S8x1x1_0 shifts)))
    (broadcastInDim S8x1536x4096 ![] bcast_S_S8x1536x4096 (constantI S_ 32 15#32)))

/-- The weights. -/
def weights (Q : IVec S1536x4096 32) (S : FVec Ideal S96x4096 .bf16) (Z : IVec S96x512 32) : FVec Ideal S12288x4096 .bf16 :=
  shapeCast S12288x4096 (mulf (subf (shapeCast S8x96x16x4096 (planes Q) shapeCasts_S8x1536x4096_S8x96x16x4096)
      (broadcastInDim S8x96x16x4096 ![0, 1, 2, 3] bcast_S1x96x1x4096_S8x96x16x4096_0_1_2_3 (broadcastInDim S1x96x1x4096 ![1, 3] bcast_S96x4096_S1x96x1x4096_1_3 (zeros Z))))
    (broadcastInDim S8x96x16x4096 ![0, 1, 2, 3] bcast_S1x96x1x4096_S8x96x16x4096_0_1_2_3 (broadcastInDim S1x96x1x4096 ![1, 3] bcast_S96x4096_S1x96x1x4096_1_3 S))) shapeCasts_S8x96x16x4096_S12288x4096

/-- `x` in the weights' row order. -/
def regrouped (X : FVec Ideal S384x1x12288 .bf16) : FVec Ideal S384x1x12288 .bf16 :=
  shapeCast S384x1x12288 (transpose S384x1x8x1536 [0, 1, 3, 2] (shapeCast S384x1x1536x8 X shapeCasts_S384x1x12288_S384x1x1536x8)
    transposes_S384x1x1536x8_S384x1x8x1536_0_1_3_2) shapeCasts_S384x1x8x1536_S384x1x12288

/-- The product. -/
def prod (X : FVec Ideal S384x1x12288 .bf16) (Q : IVec S1536x4096 32) (S : FVec Ideal S96x4096 .bf16) (Z : IVec S96x512 32) : FVec Ideal S384x1x4096 .f32 :=
  Host.dotGeneral dot_S384x1x12288_S12288x4096_S384x1x4096_2_0_01_1_n_n none (regrouped X) (weights Q S Z)

/-- Each row's largest magnitude over 448. -/
def rowMax (A : FVec Ideal S384x1x4096 .f32) : FVec Ideal S384x1 .f32 :=
  mulf (Host.reduce FloatOps.maximumf (Host.absf A) (constant S_ .f32 0xFF800000#32) reducesTo_S384x1x4096_S384x1_d2 h_S_)
    (broadcastInDim S384x1 ![] bcast_S_S384x1 (constant S_ .f32 0x3B124925#32))

/-- Each row's exponent. -/
def expo (t : FVec Ideal S384x1 .f32) : FVec Ideal S384x1 .f32 :=
  select (andi (cmpf .oge t (broadcastInDim S384x1 ![] bcast_S_S384x1 (constant S_ .f32 0x00800000#32))) (cmpf .olt t (broadcastInDim S384x1 ![] bcast_S_S384x1 (constant S_ .f32 0x7E800000#32))))
    (addf (Host.floor (Host.divf (Host.log t) (broadcastInDim S384x1 ![] bcast_S_S384x1 (Host.log (constant S_ .f32 0x40000000#32)))))
      (broadcastInDim S384x1 ![] bcast_S_S384x1 (constant S_ .f32 0x3F800000#32)))
    (broadcastInDim S384x1 ![] bcast_S_S384x1 (constant S_ .f32 0x00000000#32))

/-- Two to a power. -/
def twoTo (e : FVec Ideal S384x1 .f32) : FVec Ideal S384x1 .f32 :=
  Host.powf (broadcastInDim S384x1 ![] bcast_S_S384x1 (constant S_ .f32 0x40000000#32)) e

/-- The scaled, clipped product. -/
def clipped (A : FVec Ideal S384x1x4096 .f32) : FVec Ideal S384x1x4096 .f32 :=
  minimumf (broadcastInDim S384x1x4096 ![] bcast_S_S384x1x4096 (constant S_ .f32 0x43E00000#32))
    (maximumf (broadcastInDim S384x1x4096 ![] bcast_S_S384x1x4096 (constant S_ .f32 0xC3E00000#32))
      (mulf A (broadcastInDim S384x1x4096 ![0, 1, 2] bcast_S384x1x1_S384x1x4096_0_1_2 (broadcastInDim S384x1x1 ![0, 1] bcast_S384x1_S384x1x1_0_1 (twoTo (Host.negf (expo (rowMax A))))))))

end Cert.Proof.ReferenceIdeal

end
-- ==== Proof.ReferenceIdeal.Point.lean ====
/-
  The reference's lines, one entry at a time.
-/
module

public import proofs.«01_k».proof.Proof.ReferenceIdeal.Terms
public import proofs.«01_k».proof.Proof.KernelIdeal.Weights

@[expose] public section

set_option maxRecDepth 65536

noncomputable section

namespace Cert.Proof.ReferenceIdeal

open Cert.ReferenceIdeal Cert.ReferenceIdeal.Gen
open Idealize.ShloMosaic Idealize.ShloMosaic.TcCoe Idealize.ShloMosaic.Tactic
open Cert.Proof.KernelIdeal (nib nibble_word)

/-- The column of `x` that meets row `k` of the weights. -/
def colOf (k : Fin 12288) : Fin 12288 := ⟨8 * (k % 1536) + k / 1536, by omega⟩

/-- `x` in the weights' row order. -/
theorem regrouped_apply (X : FVec Ideal S384x1x12288 .bf16) (r : Fin 384) (k : Fin 12288) :
    regrouped X (ix3 r 0 k) = X (ix3 r 0 (colOf k)) := by
  pointwise [regrouped]
  exact congrArg (fun q => X (ix3 r 0 q)) (Fin.ext (by dsimp only [colOf]; omega))

/-- A nibble as the host reads it. -/
theorem nibble_value (x : BitVec 32) (p : ℕ) (hp : p < 8) :
    (FloatOps.sitofp FTy.bf16 (IntOp.andi (IntOp.shrsi ArithUnit.host x (IntOp.muli 4#32 (BitVec.ofNat 32 p))) 15#32) : Ideal .bf16) = (((nib x p : ℕ) : ℝ) : EReal) := by
  have e : IntOp.muli 4#32 (BitVec.ofNat 32 p) = BitVec.ofNat 32 (4 * p) := (BitVec.ofNat_mul 4 p).symm
  rw [e, nibble_word _ x p hp]
  have h : ∀ c : Fin 16, (BitVec.ofNat 32 c).toInt = ((c : ℕ) : ℤ) := by decide
  show (((BitVec.ofNat 32 (nib x p)).toInt : ℝ) : EReal) = _
  rw [h ⟨nib x p, Nat.mod_lt _ (by norm_num)⟩]
  norm_cast

/-- A zero point. -/
theorem zeros_apply (Z : IVec S96x512 32) (g : Fin 96) (n : Fin 4096) :
    zeros Z (ix2 g n) = ((nib (Z (ix2 g ⟨n / 8, by omega⟩)) (n % 8) : ℝ) : EReal) := by
  pointwise [zeros, shifts]
  exact nibble_value _ _ (Nat.mod_lt _ (by norm_num))

/-- A code. -/
theorem planes_apply (Q : IVec S1536x4096 32) (p : Fin 8) (w : Fin 1536) (n : Fin 4096) :
    planes Q (ix3 p w n) = ((nib (Q (ix2 w n)) p : ℝ) : EReal) := by
  pointwise [planes, shifts]
  exact nibble_value _ _ p.isLt

/-- A weight: code less zero point, times scale. -/
theorem weights_apply (Q : IVec S1536x4096 32) (S : FVec Ideal S96x4096 .bf16) (Z : IVec S96x512 32) (k : Fin 12288) (n : Fin 4096) :
    weights Q S Z (ix2 k n) = (((nib (Q (ix2 ⟨k % 1536, by omega⟩ n)) (k / 1536) : ℝ)
      - (nib (Z (ix2 ⟨k % 1536 / 16, by omega⟩ ⟨n / 8, by omega⟩)) (n % 8) : ℝ) : ℝ) : EReal) * S (ix2 ⟨k % 1536 / 16, by omega⟩ n) := by
  pointwise [weights]
  rw [planes_apply, zeros_apply, EReal.coe_sub]
  have e1 : (⟨(k : ℕ) / 16 % 96 * 16 + k % 16, by omega⟩ : Fin 1536) = ⟨k % 1536, by omega⟩ := Fin.ext (by dsimp only; omega)
  have e2 : (⟨(k : ℕ) / 16 % 96, by omega⟩ : Fin 96) = ⟨k % 1536 / 16, by omega⟩ := Fin.ext (by dsimp only; omega)
  rw [e1, e2]

/-- The product is the sum over the weights' rows. -/
theorem prod_apply (X : FVec Ideal S384x1x12288 .bf16) (Q : IVec S1536x4096 32) (S : FVec Ideal S96x4096 .bf16) (Z : IVec S96x512 32) (r : Fin 384) (n : Fin 4096) :
    prod X Q S Z (ix3 r 0 n) = ∑ k : Fin 12288, regrouped X (ix3 r 0 k) * weights Q S Z (ix2 k n) := by
  unfold prod
  generalize regrouped X = X', weights Q S Z = W
  pointwise []

/-- A row's largest magnitude over 448. -/
theorem rowMax_apply (A : FVec Ideal S384x1x4096 .f32) (r : Fin 384) :
    rowMax A (ix2 r 0) = Finset.fold max (Ideal.ofBits FTy.f32 4286578688#32) (fun x => FloatOps.absf (A (ix3 r 0 x))) Finset.univ * Ideal.ofBits FTy.f32 991054117#32 := by
  pointwise [rowMax]

/-- A row's exponent, of the row's value. -/
theorem expo_apply (t : FVec Ideal S384x1 .f32) (r : Fin 384) :
    expo t (ix2 r 0) = Scalar.select
      (IntOp.andi (BitVec.ofBool (decide (Ideal.ofBits FTy.f32 8388608#32 ≤ t (ix2 r 0)))) (BitVec.ofBool (decide (t (ix2 r 0) < Ideal.ofBits FTy.f32 2122317824#32))))
      (Ideal.liftRound Int.floor (Ideal.div (Ideal.log (t (ix2 r 0))) (Ideal.log (Ideal.ofBits FTy.f32 1073741824#32))) + 1) 0 := by
  pointwise [expo]

/-- Two to a row's exponent. -/
theorem twoTo_apply (t : FVec Ideal S384x1 .f32) (r : Fin 384) :
    twoTo t (ix2 r 0) = Ideal.pow (Ideal.ofBits FTy.f32 1073741824#32) (t (ix2 r 0)) := by
  pointwise [twoTo]

/-- The exponent's sign turned. -/
theorem neg_apply (t : FVec Ideal S384x1 .f32) (r : Fin 384) : Host.negf t (ix2 r 0) = -(t (ix2 r 0)) := by
  pointwise []
  try rfl

/-- The scaled, clipped product. -/
theorem clipped_apply (A : FVec Ideal S384x1x4096 .f32) (r : Fin 384) (n : Fin 4096) :
    clipped A (ix3 r 0 n) = min (Ideal.ofBits FTy.f32 1138753536#32)
      (max (Ideal.ofBits FTy.f32 3286237184#32) (A (ix3 r 0 n) * twoTo (Host.negf (expo (rowMax A))) (ix2 r 0))) := by
  pointwise [clipped]

end Cert.Proof.ReferenceIdeal

end
-- ==== Proof.Algebraic.lean ====
/-
  Kernel and reference compute the same at exact arithmetic: the same product, its terms in another order, and the same
  codes and scales of it.
-/
module

public import proofs.«01_k».proof.Proof.KernelIdeal.Arrays
public import proofs.«01_k».proof.Proof.KernelIdeal.Quant
public import proofs.«01_k».proof.Proof.ReferenceIdeal.Point

@[expose] public section

set_option maxRecDepth 65536

noncomputable section

namespace Cert.Proof

open Idealize.ShloMosaic Idealize.ShloMosaic.TcCoe Idealize.ShloMosaic.Tactic
open Cert.Proof.ReferenceIdeal (colOf)
open Cert.Proof.KernelIdeal (nib lane src xperm gweight gterm accum codesOf scalesOf)

/-- The kernel's place for the reference's row `k` of the weights. -/
def toPlace (k : Fin 12288) : Fin 12288 := ⟨64 * (k % 1536 / 8) + 16 * (k / 1536 % 4) + 2 * (k % 8) + k / 1536 / 4, by omega⟩

/-- The reference's row of the weights at the kernel's place `L`. -/
def ofPlace (L : Fin 12288) : Fin 12288 := ⟨1536 * (L % 64 / 16 + 4 * (L % 2)) + 8 * (L / 64) + L % 16 / 2, by omega⟩

/-- A row's digits, and the place they make. -/
theorem row_digits (k : Fin 12288) : ∃ a b s q : ℕ, a < 192 ∧ b < 8 ∧ s < 4 ∧ q < 2 ∧ (k : ℕ) = 1536 * (4 * q + s) + 8 * a + b
    ∧ (k : ℕ) % 1536 = 8 * a + b ∧ (k : ℕ) / 1536 = 4 * q + s ∧ (toPlace k : ℕ) = 64 * a + 16 * s + 2 * b + q :=
  ⟨k % 1536 / 8, k % 8, k / 1536 % 4, k / 1536 / 4, by omega, by omega, by omega, by omega, by omega, by omega, by omega, rfl⟩

/-- A place's digits. -/
theorem place_digits (L a b s q : ℕ) (hb : b < 8) (hs : s < 4) (hq : q < 2) (h : L = 64 * a + 16 * s + 2 * b + q) :
    L / 64 = a ∧ L % 16 / 2 = b ∧ L % 64 / 16 = s ∧ L % 2 = q := by
  refine ⟨by omega, by omega, by omega, by omega⟩

/-- Back from the place to the row. -/
theorem of_toPlace (k : Fin 12288) : ofPlace (toPlace k) = k := by
  obtain ⟨a, b, s, q, ha, hb, hs, hq, hk, -, -, h⟩ := row_digits k
  obtain ⟨d1, d2, d3, d4⟩ := place_digits _ a b s q hb hs hq h
  refine Fin.ext ?_
  have e : (ofPlace (toPlace k) : ℕ) = 1536 * ((toPlace k : ℕ) % 64 / 16 + 4 * ((toPlace k : ℕ) % 2)) + 8 * ((toPlace k : ℕ) / 64) + (toPlace k : ℕ) % 16 / 2 := rfl
  rw [e, d1, d2, d3, d4]
  omega

/-- Rows and places correspond one to one. -/
def place : Fin 12288 ≃ Fin 12288 :=
  Equiv.ofBijective toPlace ((Finite.injective_iff_bijective).mp (Function.LeftInverse.injective of_toPlace))

/-- At a row's place the kernel reads the column of `x` that the reference reads for the row. -/
theorem src_place (k : Fin 12288) : src (toPlace k) = colOf k := by
  obtain ⟨a, b, s, q, ha, hb, hs, hq, -, h1, h2, h⟩ := row_digits k
  refine Fin.ext ?_
  have e1 : (src (toPlace k) : ℕ) = (toPlace k : ℕ) / 128 * 128 + ((toPlace k : ℕ) % 128 / 64 * 64 + 4 * ((toPlace k : ℕ) % 128 % 16) + (toPlace k : ℕ) % 128 / 16 % 4) := rfl
  have e2 : (colOf k : ℕ) = 8 * (k % 1536) + k / 1536 := rfl
  rw [e1, e2, h1, h2]
  generalize (toPlace k : ℕ) = L at h
  have d1 : L % 128 % 16 = 2 * b + q := by omega
  have d2 : L % 128 / 16 % 4 = s := by omega
  have d3 : L / 128 * 128 + L % 128 / 64 * 64 = 64 * a := by omega
  omega

/-- The kernel's accumulated product, summed in the reference's order. -/
theorem accum_apply (X : Cert.KernelIdeal.S384x12288.Idx → EReal) (Q : Cert.KernelIdeal.S1536x4096.Idx → BitVec 32) (S : Cert.KernelIdeal.S96x4096.Idx → EReal) (Z : Cert.KernelIdeal.S96x512.Idx → BitVec 32)
    (r : Fin 384) (n : Fin 4096) :
    accum X Q S Z (ix2 r n) = ∑ k : Fin 12288, X (ix2 r (colOf k)) * gweight Q S Z ⟨k % 1536, by omega⟩ (k / 1536) n := by
  unfold accum
  rw [Finset.sum_range, ← Equiv.sum_comp place]
  refine Finset.sum_congr rfl fun k _ => ?_
  refine (dif_pos (toPlace k).isLt).trans ?_
  obtain ⟨a, b, s, q, ha, hb, hs, hq, -, h1, h2, h⟩ := row_digits k
  obtain ⟨d1, d2, d3, d4⟩ := place_digits _ a b s q hb hs hq h
  have e1 : (⟨(toPlace k : ℕ) / 64 * 8 + (toPlace k : ℕ) % 16 / 2, by have := (toPlace k).isLt; omega⟩ : Fin 1536) = ⟨k % 1536, by omega⟩ :=
    Fin.ext (by dsimp only; rw [d1, d2, h1]; omega)
  have e2 : (toPlace k : ℕ) % 64 / 16 + 4 * ((toPlace k : ℕ) % 2) = k / 1536 := by rw [d3, d4, h2]; omega
  refine congrArg₂ (· * ·) (congrArg (fun q => X (ix2 r q)) (src_place k)) ?_
  exact congrArg₂ (fun w p => gweight Q S Z w p n) e1 e2

/-- The two products agree. -/
theorem products (X : Cert.KernelIdeal.S384x1x12288.Idx → EReal) (Q : Cert.KernelIdeal.S1536x4096.Idx → BitVec 32) (S : Cert.KernelIdeal.S96x4096.Idx → EReal) (Z : Cert.KernelIdeal.S96x512.Idx → BitVec 32)
    (X' : Cert.KernelIdeal.S384x12288.Idx → EReal) (hX : ∀ r k, X' (ix2 r k) = X (ix3 r 0 k)) (r : Fin 384) (n : Fin 4096) :
    ReferenceIdeal.prod X Q S Z (ix3 r 0 n) = accum X' Q S Z (ix2 r n) := by
  rw [ReferenceIdeal.prod_apply, accum_apply]
  refine Finset.sum_congr rfl fun k _ => ?_
  rw [ReferenceIdeal.regrouped_apply, ReferenceIdeal.weights_apply, hX]
  rfl

section
variable (A : Cert.KernelIdeal.S384x1x4096.Idx → EReal) (B : Cert.KernelIdeal.S384x4096.Idx → EReal) (h : ∀ r n, A (ix3 r 0 n) = B (ix2 r n))
include h

/-- The rows' values agree. -/
theorem rowMaxes (r : Fin 384) : ReferenceIdeal.rowMax A (ix2 r 0) = KernelIdeal.rowMax B r := by
  rw [ReferenceIdeal.rowMax_apply, KernelIdeal.rowMax_apply]
  exact congrArg (fun f => Finset.fold max _ f Finset.univ * _) (funext fun x => congrArg _ (h r x))

/-- The rows' exponents agree. -/
theorem expos (r : Fin 384) : ReferenceIdeal.expo (ReferenceIdeal.rowMax A) (ix2 r 0) = ((KernelIdeal.expo (KernelIdeal.rowMax B r) : ℝ) : EReal) := by
  rw [ReferenceIdeal.expo_apply, rowMaxes A B h r]
  exact KernelIdeal.expo_log _

/-- The scales agree. -/
theorem scales_agree (r : Fin 384) : ReferenceIdeal.twoTo (ReferenceIdeal.expo (ReferenceIdeal.rowMax A)) (ix2 r 0) = scalesOf (F := Ideal) B (ix2 0 r) := by
  rw [ReferenceIdeal.twoTo_apply, expos A B h r, KernelIdeal.scale_apply]
  exact KernelIdeal.two_pow _

/-- The codes agree. -/
theorem codes_agree (r : Fin 384) (n : Fin 4096) : ReferenceIdeal.clipped A (ix3 r 0 n) = (show EReal from codesOf (F := Ideal) B (ix2 r n)) := by
  have e := KernelIdeal.two_pow (-KernelIdeal.expo (KernelIdeal.rowMax B r))
  rw [Int.cast_neg, EReal.coe_neg] at e
  rw [ReferenceIdeal.clipped_apply, KernelIdeal.code_apply, ReferenceIdeal.twoTo_apply, ReferenceIdeal.neg_apply, expos A B h r, h r n, ← e]
  rfl

end

end Cert.Proof

end
-- ==== Proof.KernelIdeal.Steps.lean ====
/-
  What each grid point's stores leave, as whole arrays, at exact arithmetic.
-/
module

public import proofs.«01_k».proof.Proof.KernelIdeal.Arrays

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

/-- The proof's resource algebra: the frame kit's. -/
local notation "𝕄" => MT nD τ sig Unit (Elt Ideal) ℕ (UR sig nD τ) ℕ

variable (m : (ℓ : Loc nD τ sig) → Buf (Elt Ideal) ℓ) (ρ : Dev nD → PrngReg)

/-- The whole product, of the arrays the region finds. -/
def product (c : Dev nD) : S384x4096.Idx → EReal :=
  accum (V m c main_v0) (V m c main_arg1) (V m c main_arg2) (V m c main_arg3)

section
variable (c : Dev nD) (t : Fin grid0.N)
  (arg1 : Memref sig .tc .vmem S384x12288 .bf16) (harg1 : arg1.IsWhole) (arg2 : Memref sig .tc .vmem S1536x512 .i32) (harg2 : arg2.IsWhole)
  (arg3 : Memref sig .tc .vmem S96x512 .bf16) (harg3 : arg3.IsWhole) (arg4 : Memref sig .tc .vmem S96x128 .i32) (harg4 : arg4.IsWhole)
  (arg5 : Memref sig .tc .vmem S384x4096 .fp8e4m3) (harg5 : arg5.IsWhole) (arg6 : Memref sig .tc .vmem S1x384 .f32) (harg6 : arg6.IsWhole)
  (arg7 : Memref sig .tc .vmem S384x12288 .bf16) (harg7 : arg7.IsWhole) (arg8 : Memref sig .tc .vmem S384x4096 .f32) (harg8 : arg8.IsWhole)
  (arg9 : Memref sig .tc .vmem S8x512 .i32) (harg9 : arg9.IsWhole) (arg10 : Memref sig .tc .vmem S8x512 .f32) (harg10 : arg10.IsWhole)
  (f1 : BufTy.Contents (Elt Ideal) arg1.view.ty) (f2 : BufTy.Contents (Elt Ideal) arg2.view.ty) (f3 : BufTy.Contents (Elt Ideal) arg3.view.ty)
  (f4 : BufTy.Contents (Elt Ideal) arg4.view.ty) (f5 : BufTy.Contents (Elt Ideal) arg5.view.ty) (f6 : BufTy.Contents (Elt Ideal) arg6.view.ty)
  (f7 : BufTy.Contents (Elt Ideal) arg7.view.ty) (f8 : BufTy.Contents (Elt Ideal) arg8.view.ty) (f9 : BufTy.Contents (Elt Ideal) arg9.view.ty)
  (f10 : BufTy.Contents (Elt Ideal) arg10.view.ty)
  (h1 : arg1.view.read (Elt Ideal) f1 = iblk m c 0 t) (h2 : arg2.view.read (Elt Ideal) f2 = iblk m c 1 t)
  (h3 : arg3.view.read (Elt Ideal) f3 = iblk m c 2 t) (h4 : arg4.view.read (Elt Ideal) f4 = iblk m c 3 t)
  (h7 : ∀ y, arg7.view.read (Elt Ideal) f7 y = xperm (V m c main_v0) y)
  (h8 : ∀ y : S384x4096.Idx, (y 1 : ℕ) < 512 * t → arg8.view.read (Elt Ideal) f8 y = product m c y)

include h1 in
/-- The first point permutes `x`. -/
theorem stepA_7 (hc1 : k0_cond1 (grid0.coords t) = 1#1) (hc2 : ¬ k0_cond2 (grid0.coords t) = 1#1) (y : S384x12288.Idx) :
    arg7.view.read (Elt Ideal) (arg7.view.writes (Elt Ideal) f7 (runA c (grid0.coords t) arg1 harg1 arg2 harg2 arg3 harg3 arg4 harg4 arg5 harg5 arg6 harg6 arg7 harg7 arg8 harg8 arg9 harg9 arg10 harg10 f1 f2 f3 f4 f7 f8 f9 f10 hc1 hc2).1) y = xperm (V m c main_v0) y := by
  rw [runA_7]
  refine (permuted c (grid0.coords t) arg1 harg1 arg2 harg2 arg3 harg3 arg4 harg4 arg5 harg5 arg6 harg6 arg7 harg7 arg8 harg8 arg9 harg9 arg10 harg10 f1 f7 hc1 y).trans ?_
  unfold xperm
  rw [h1]
  exact x_block m c t _

include h1 h2 h3 h4 in
/-- The first point writes its columns of the product. -/
theorem stepA_8 (h8 : ∀ y : S384x4096.Idx, (y 1 : ℕ) < 512 * t → arg8.view.read (Elt Ideal) f8 y = product m c y)
    (hc1 : k0_cond1 (grid0.coords t) = 1#1) (hc2 : ¬ k0_cond2 (grid0.coords t) = 1#1) (y : S384x4096.Idx) (hy : (y 1 : ℕ) < 512 * (t + 1)) :
    arg8.view.read (Elt Ideal) (arg8.view.writes (Elt Ideal) f8 (runA c (grid0.coords t) arg1 harg1 arg2 harg2 arg3 harg3 arg4 harg4 arg5 harg5 arg6 harg6 arg7 harg7 arg8 harg8 arg9 harg9 arg10 harg10 f1 f2 f3 f4 f7 f8 f9 f10 hc1 hc2).2.1) y = product m c y := by
  rw [runA_8]
  have h7 := stepA_7 m c t arg1 harg1 arg2 harg2 arg3 harg3 arg4 harg4 arg5 harg5 arg6 harg6 arg7 harg7 arg8 harg8 arg9 harg9 arg10 harg10 f1 f2 f3 f4 f7 f8 f9 f10 h1 hc1 hc2
  rw [runA_7] at h7
  exact columns arg8 f8 t _ (product m c) (fun r col C hC => sums_apply m c arg1 harg1 arg2 harg2 arg3 harg3 arg4 harg4 arg5 harg5 arg6 harg6 arg7 harg7 arg8 harg8 arg9 harg9 arg10 harg10 f2 f3 f4 f9 f10 t _ h2 h3 h4 h7 r col C hC) h8 y hy

include h2 h3 h4 h7 h8 in
/-- A middle point writes its columns of the product. -/
theorem stepB_8 (hc1 : ¬ k0_cond1 (grid0.coords t) = 1#1) (hc2 : ¬ k0_cond2 (grid0.coords t) = 1#1) (y : S384x4096.Idx) (hy : (y 1 : ℕ) < 512 * (t + 1)) :
    arg8.view.read (Elt Ideal) (arg8.view.writes (Elt Ideal) f8 (runB c (grid0.coords t) arg1 harg1 arg2 harg2 arg3 harg3 arg4 harg4 arg5 harg5 arg6 harg6 arg7 harg7 arg8 harg8 arg9 harg9 arg10 harg10 f2 f3 f4 f7 f8 f9 f10 hc1 hc2).1) y = product m c y := by
  rw [runB_8]
  exact columns arg8 f8 t _ (product m c) (fun r col C hC => sums_apply m c arg1 harg1 arg2 harg2 arg3 harg3 arg4 harg4 arg5 harg5 arg6 harg6 arg7 harg7 arg8 harg8 arg9 harg9 arg10 harg10 f2 f3 f4 f9 f10 t f7 h2 h3 h4 h7 r col C hC) h8 y hy

include h2 h3 h4 h7 h8 in
/-- The last point writes its columns of the product. -/
theorem stepC_8 (hc1 : ¬ k0_cond1 (grid0.coords t) = 1#1) (hc2 : k0_cond2 (grid0.coords t) = 1#1) (y : S384x4096.Idx) (hy : (y 1 : ℕ) < 512 * (t + 1)) :
    arg8.view.read (Elt Ideal) (arg8.view.writes (Elt Ideal) f8 (runC c (grid0.coords t) arg1 harg1 arg2 harg2 arg3 harg3 arg4 harg4 arg5 harg5 arg6 harg6 arg7 harg7 arg8 harg8 arg9 harg9 arg10 harg10 f2 f3 f4 f5 f6 f7 f8 f9 f10 hc1 hc2).2.2.1) y = product m c y := by
  rw [runC_8]
  exact columns arg8 f8 t _ (product m c) (fun r col C hC => sums_apply m c arg1 harg1 arg2 harg2 arg3 harg3 arg4 harg4 arg5 harg5 arg6 harg6 arg7 harg7 arg8 harg8 arg9 harg9 arg10 harg10 f2 f3 f4 f9 f10 t f7 h2 h3 h4 h7 r col C hC) h8 y hy

include h2 h3 h4 h7 h8 in
/-- What the last point quantises is the whole product. -/
theorem stepC_rows (ht : t.val = 7) (hc1 : ¬ k0_cond1 (grid0.coords t) = 1#1) (hc2 : k0_cond2 (grid0.coords t) = 1#1) :
    View.readAt (Elt Ideal) arg8.view (Rect.unit (s := S384x4096) ![0, 0] S384x4096.size inb_S384x4096_S384x4096_0_0).toLoadRect
      (arg8.view.writes (Elt Ideal) f8 (runC c (grid0.coords t) arg1 harg1 arg2 harg2 arg3 harg3 arg4 harg4 arg5 harg5 arg6 harg6 arg7 harg7 arg8 harg8 arg9 harg9 arg10 harg10 f2 f3 f4 f5 f6 f7 f8 f9 f10 hc1 hc2).2.2.1) = product m c := by
  funext y
  obtain ⟨r, l, rfl⟩ : ∃ (r : Fin 384) (l : Fin 4096), y = ix2 r l := ⟨y 0, y 1, eq_ix2 y⟩
  refine (load_apply arg8.view _ _ _ 0 0 rfl r l r l (Nat.zero_add _).symm (Nat.zero_add _).symm).trans ?_
  exact stepC_8 m c t arg1 harg1 arg2 harg2 arg3 harg3 arg4 harg4 arg5 harg5 arg6 harg6 arg7 harg7 arg8 harg8 arg9 harg9 arg10 harg10 f2 f3 f4 f5 f6 f7 f8 f9 f10 h2 h3 h4 h7 h8 hc1 hc2 _ (by show (l : ℕ) < _; omega)

include h2 h3 h4 h7 h8 in
/-- The last point's codes. -/
theorem stepC_5 (ht : t.val = 7) (hc1 : ¬ k0_cond1 (grid0.coords t) = 1#1) (hc2 : k0_cond2 (grid0.coords t) = 1#1) :
    arg5.view.read (Elt Ideal) (arg5.view.writes (Elt Ideal) f5 (runC c (grid0.coords t) arg1 harg1 arg2 harg2 arg3 harg3 arg4 harg4 arg5 harg5 arg6 harg6 arg7 harg7 arg8 harg8 arg9 harg9 arg10 harg10 f2 f3 f4 f5 f6 f7 f8 f9 f10 hc1 hc2).1) = codesOf (F := Ideal) (product m c) := by
  have e := stepC_rows m c t arg1 harg1 arg2 harg2 arg3 harg3 arg4 harg4 arg5 harg5 arg6 harg6 arg7 harg7 arg8 harg8 arg9 harg9 arg10 harg10 f2 f3 f4 f5 f6 f7 f8 f9 f10 h2 h3 h4 h7 h8 ht hc1 hc2
  rw [runC_8] at e
  rw [runC_5, e]
  funext y
  exact View.read_writes_cons_unit_of_mem arg5.view f5 _ _ _ y y rfl (fun a => by fin_cases a <;> exact (Nat.zero_add _).symm)

include h2 h3 h4 h7 h8 in
/-- The last point's scales. -/
theorem stepC_6 (ht : t.val = 7) (hc1 : ¬ k0_cond1 (grid0.coords t) = 1#1) (hc2 : k0_cond2 (grid0.coords t) = 1#1) :
    arg6.view.read (Elt Ideal) (arg6.view.writes (Elt Ideal) f6 (runC c (grid0.coords t) arg1 harg1 arg2 harg2 arg3 harg3 arg4 harg4 arg5 harg5 arg6 harg6 arg7 harg7 arg8 harg8 arg9 harg9 arg10 harg10 f2 f3 f4 f5 f6 f7 f8 f9 f10 hc1 hc2).2.1) = scalesOf (F := Ideal) (product m c) := by
  have e := stepC_rows m c t arg1 harg1 arg2 harg2 arg3 harg3 arg4 harg4 arg5 harg5 arg6 harg6 arg7 harg7 arg8 harg8 arg9 harg9 arg10 harg10 f2 f3 f4 f5 f6 f7 f8 f9 f10 h2 h3 h4 h7 h8 ht hc1 hc2
  rw [runC_8] at e
  rw [runC_6, e]
  funext y
  exact View.read_writes_cons_unit_of_mem arg6.view f6 _ _ _ y y rfl (fun a => by fin_cases a <;> exact (Nat.zero_add _).symm)

end

end Cert.Proof.KernelIdeal

end
-- ==== Proof.KernelIdeal.Value.lean ====
/-
  The kernel's run at exact arithmetic: both results are the quantiser of the whole product.

  Between grid points the scratch holds the permuted `x` (once the first point has run) and the product's columns of
  the points run so far. The last point quantises the product and writes both results; every point before it leaves
  the results' buffers as they are.
-/
module

public import proofs.«01_k».proof.Proof.KernelIdeal.Steps
public import proofs.«01_k».proof.Proof.KernelIdeal.Frame

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

/-- The proof's resource algebra: the frame kit's. -/
local notation "𝕄" => MT nD τ sig Unit (Elt Ideal) ℕ (UR sig nD τ) ℕ

variable (m : (ℓ : Loc nD τ sig) → Buf (Elt Ideal) ℓ) (ρ : Dev nD → PrngReg)

/-- What the scratch of the permuted `x` holds. -/
abbrev C7 : Type := BufTy.Contents (Elt Ideal) (Memref.whole cc0_scratch0).view.ty
/-- What the accumulator scratch holds. -/
abbrev C8 : Type := BufTy.Contents (Elt Ideal) (Memref.whole cc0_scratch1).view.ty

/-- What the scratch holds before point `n`: the permuted `x`, but before the first, and the product's columns so far. -/
def Inv (c : Dev nD) (n : ℕ) (f7 : C7) (f8 : C8) : Prop :=
  (0 < n → ∀ y : S384x12288.Idx, (Memref.whole cc0_scratch0).view.read (Elt Ideal) f7 y = xperm (V m c main_v0) y)
  ∧ ∀ y : S384x4096.Idx, (y 1 : ℕ) < 512 * n → (Memref.whole cc0_scratch1).view.read (Elt Ideal) f8 y = product m c y

/-- The scratch before point `n`, with what it holds. -/
def ΦV (c : Dev nD) (n : ℕ) : sProp 𝕄 :=
  iprop((∃ (f7 : C7) (f8 : C8), ⌜Inv m c n f7 f8⌝ ∗ Held (F := Ideal) c (Memref.whole cc0_scratch0) f7 ∗ Held (F := Ideal) c (Memref.whole cc0_scratch1) f8
      ∗ (∃ f9, Held (F := Ideal) c (Memref.whole cc0_scratch2) f9) ∗ (∃ f10, Held (F := Ideal) c (Memref.whole cc0_scratch3) f10)) ∗ ∃ r, prngReg c r)

/-- The proof data of the exact run. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesOf (F := Ideal) (product m c)
    | ⟨5, _⟩ => scalesOf (F := Ideal) (product m c)
  Φ t := ΦV m c t.val
  q _ := fullShare
  owed _ := 0

/-- Each input's staging buffer holds its block when the body runs. -/
theorem beforeV_0 (c : Dev nD) (t : Fin cfg0.N) (d) : (datsV m 0 c).before 0 t d = iblk m c 0 t :=
  before0_0_of m (datsV m 0 c) rfl (fun _ => rfl) t d
/-- The same of input window 1. -/
theorem beforeV_1 (c : Dev nD) (t : Fin cfg0.N) (d) : (datsV m 0 c).before 1 t d = iblk m c 1 t :=
  before0_1_of m (datsV m 0 c) rfl (fun _ => rfl) t d
/-- The same of input window 2. -/
theorem beforeV_2 (c : Dev nD) (t : Fin cfg0.N) (d) : (datsV m 0 c).before 2 t d = iblk m c 2 t :=
  before0_2_of m (datsV m 0 c) rfl (fun _ => rfl) t d
/-- The same of input window 3. -/
theorem beforeV_3 (c : Dev nD) (t : Fin cfg0.N) (d) : (datsV m 0 c).before 3 t d = iblk m c 3 t :=
  before0_3_of m (datsV m 0 c) rfl (fun _ => rfl) t d

/-- The first branch is the first point's. -/
theorem cond1_iff (t : Fin cfg0.N) : k0_cond1 (grid0.coords t) = 1#1 ↔ t.val = 0 := by
  revert t; decide +kernel

/-- The second branch is the last point's. -/
theorem cond2_iff (t : Fin cfg0.N) : k0_cond2 (grid0.coords t) = 1#1 ↔ t.val = 7 := by
  revert t; decide +kernel

/-- Before the last point the results' buffers are left as they were found. -/
theorem leaves_4 (c : Dev nD) (t : Fin cfg0.N) (h : ¬ k0_cond2 (grid0.coords t) = 1#1) :
    (datsV m 0 c).leavesExact 4 t = iprop(∃ d, owns (c : Thread nD τ) (st0_4 t) fullShare ((datsV m 0 c).before 4 t d)) :=
  (datsV m 0 c).leavesExact_idle 4 t (by show (!(k0_cond2 (grid0.coords t) == 1#1)) = true; simp [h])
    (by
      have h7 : ¬ t.val % 8 = 7 := by
        have := (cond2_iff t).not.mp h
        have := lt_of_lt_of_eq t.isLt N_0
        omega
      exact Bool.eq_false_iff.mpr ((flush0_4 t).not.mpr h7))
/-- The same of the scales' window. -/
theorem leaves_5 (c : Dev nD) (t : Fin cfg0.N) (h : ¬ k0_cond2 (grid0.coords t) = 1#1) :
    (datsV m 0 c).leavesExact 5 t = iprop(∃ d, owns (c : Thread nD τ) (st0_5 t) fullShare ((datsV m 0 c).before 5 t d)) :=
  (datsV m 0 c).leavesExact_idle 5 t (by show (!(k0_cond2 (grid0.coords t) == 1#1)) = true; simp [h])
    (by
      have h7 : ¬ t.val % 8 = 7 := by
        have := (cond2_iff t).not.mp h
        have := lt_of_lt_of_eq t.isLt N_0
        omega
      exact Bool.eq_false_iff.mpr ((flush0_5 t).not.mpr h7))

/-- The last point leaves the results in their buffers. -/
theorem leaves_4' (c : Dev nD) (t : Fin cfg0.N) (h : k0_cond2 (grid0.coords t) = 1#1) :
    (datsV m 0 c).leavesExact 4 t = owns (c : Thread nD τ) (st0_4 t) fullShare (codesOf (F := Ideal) (product m c)) := by
  have hi : cfg0.idle 4 (cfg0.grid.coords t) = false := by show (!(k0_cond2 (grid0.coords t) == 1#1)) = false; simp [h]
  unfold Dat.leavesExact; rw [hi]; rfl
/-- The same of the scales' window. -/
theorem leaves_5' (c : Dev nD) (t : Fin cfg0.N) (h : k0_cond2 (grid0.coords t) = 1#1) :
    (datsV m 0 c).leavesExact 5 t = owns (c : Thread nD τ) (st0_5 t) fullShare (scalesOf (F := Ideal) (product m c)) := by
  have hi : cfg0.idle 5 (cfg0.grid.coords t) = false := by show (!(k0_cond2 (grid0.coords t) == 1#1)) = false; simp [h]
  unfold Dat.leavesExact; rw [hi]; rfl

/-- What the body is handed at a point. -/
abbrev pre (c : Dev nD) (t : Fin cfg0.N) : sProp 𝕄 :=
  iprop(ΦV m c t.val ∗ (datsV m 0 c).owesAt () t.castSucc
      ∗ (∃ d, owns (c : Thread nD τ) (st0_0 t) fullShare ((datsV m 0 c).before 0 t d))
      ∗ (∃ d, owns (c : Thread nD τ) (st0_1 t) fullShare ((datsV m 0 c).before 1 t d))
      ∗ (∃ d, owns (c : Thread nD τ) (st0_2 t) fullShare ((datsV m 0 c).before 2 t d))
      ∗ (∃ d, owns (c : Thread nD τ) (st0_3 t) fullShare ((datsV m 0 c).before 3 t d))
      ∗ (∃ d, owns (c : Thread nD τ) (st0_4 t) fullShare ((datsV m 0 c).before 4 t d))
      ∗ (∃ d, owns (c : Thread nD τ) (st0_5 t) fullShare ((datsV m 0 c).before 5 t d)))

/-- What the body hands back at a point. -/
abbrev post (c : Dev nD) (t : Fin cfg0.N) : sProp 𝕄 :=
  iprop(ΦV m c (t.val + 1) ∗ (datsV m 0 c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ (datsV m 0 c).leavesExact 4 t ∗ (datsV m 0 c).leavesExact 5 t)

set_option maxHeartbeats 1000000 in
/-- A middle point's run. -/
theorem body_B (c : Dev nD) (t : Fin cfg0.N) (hc1 : ¬ k0_cond1 (grid0.coords t) = 1#1) (hc2 : ¬ k0_cond2 (grid0.coords t) = 1#1) :
    pre m c t ⊢ wp frame (wpE (defs₀ (F := Ideal)) 𝒱₀ (c : Thread nD τ) none) Set.univ (bodyAt0 (F := Ideal) t) fun _ => post m c t := by
  unfold pre post
  rw [leaves_4 m c t hc2, leaves_5 m c t hc2]
  simp only [beforeV_0, beforeV_1, beforeV_2, beforeV_3]
  unfold ΦV owns Dat.owesAt Pipeline.owesWithin
  iintro ⟨⟨⟨%f7, %f8, %hI, H7, H8, ⟨%f9, H9⟩, ⟨%f10, H10⟩⟩, ⟨%r, Hr⟩⟩, ⟨%o, %ho, Ho⟩, ⟨%d0, %f1, %hf1, H1⟩, ⟨%d1, %f2, %hf2, H2⟩, ⟨%d2, %f3, %hf3, H3⟩,
    ⟨%d3, %f4, %hf4, H4⟩, H5, H6⟩
  iapply ((runB c (grid0.coords t) _ _ _ _ _ _ _ _ _ _ _ _ _ _ _ _ _ _ _ _ f2 f3 f4 f7 f8 f9 f10 hc1 hc2).2.2.2 Set.univ _)
  isplitl [H2]; · iexact H2
  isplitl [H3]; · iexact H3
  isplitl [H4]; · iexact H4
  isplitl [H7]; · iexact H7
  isplitl [H8]; · iexact H8
  isplitl [H9]; · iexact H9
  isplitl [H10]; · iexact H10
  iintro ⟨H2, H3, H4, H7, H8, H9, H10⟩
  have h0 : 0 < t.val := Nat.pos_of_ne_zero ((cond1_iff t).not.mp hc1)
  isplitl [H7 H8 H9 H10 Hr]
  · isplitl [H7 H8 H9 H10]
    · iexists f7
      iexists _
      isplitr
      swap
      · isplitl [H7]; · iexact H7
        isplitl [H8]; · iexact H8
        sl_close
      · ipureintro
        exact ⟨fun _ => hI.1 h0, stepB_8 m c t _ _ _ _ _ _ _ _ _ _ _ _ _ _ _ _ _ _ _ _ f2 f3 f4 f7 f8 f9 f10 hf2 hf3 hf4 (hI.1 h0) hI.2 hc1 hc2⟩
    · sl_close
  isplitl [Ho]; · sl_close
  isplitl [H1]; · sl_close
  isplitl [H2]; · sl_close
  isplitl [H3]; · sl_close
  isplitl [H4]; · sl_close
  isplitl [H5]; · iexact H5
  iexact H6

set_option maxHeartbeats 1000000 in
/-- The first point's run. -/
theorem body_A (c : Dev nD) (t : Fin cfg0.N) (hc1 : k0_cond1 (grid0.coords t) = 1#1) (hc2 : ¬ k0_cond2 (grid0.coords t) = 1#1) :
    pre m c t ⊢ wp frame (wpE (defs₀ (F := Ideal)) 𝒱₀ (c : Thread nD τ) none) Set.univ (bodyAt0 (F := Ideal) t) fun _ => post m c t := by
  unfold pre post
  rw [leaves_4 m c t hc2, leaves_5 m c t hc2]
  simp only [beforeV_0, beforeV_1, beforeV_2, beforeV_3]
  unfold ΦV owns Dat.owesAt Pipeline.owesWithin
  iintro ⟨⟨⟨%f7, %f8, %hI, H7, H8, ⟨%f9, H9⟩, ⟨%f10, H10⟩⟩, ⟨%r, Hr⟩⟩, ⟨%o, %ho, Ho⟩, ⟨%d0, %f1, %hf1, H1⟩, ⟨%d1, %f2, %hf2, H2⟩, ⟨%d2, %f3, %hf3, H3⟩,
    ⟨%d3, %f4, %hf4, H4⟩, H5, H6⟩
  iapply ((runA c (grid0.coords t) _ _ _ _ _ _ _ _ _ _ _ _ _ _ _ _ _ _ _ _ f1 f2 f3 f4 f7 f8 f9 f10 hc1 hc2).2.2.2.2 Set.univ _)
  isplitl [H1]; · iexact H1
  isplitl [H2]; · iexact H2
  isplitl [H3]; · iexact H3
  isplitl [H4]; · iexact H4
  isplitl [H7]; · iexact H7
  isplitl [H8]; · iexact H8
  isplitl [H9]; · iexact H9
  isplitl [H10]; · iexact H10
  iintro ⟨H1, H2, H3, H4, H7, H8, H9, H10⟩
  isplitl [H7 H8 H9 H10 Hr]
  · isplitl [H7 H8 H9 H10]
    · iexists _
      iexists _
      isplitr
      swap
      · isplitl [H7]; · iexact H7
        isplitl [H8]; · iexact H8
        sl_close
      · ipureintro
        exact ⟨fun _ => stepA_7 m c t _ _ _ _ _ _ _ _ _ _ _ _ _ _ _ _ _ _ _ _ f1 f2 f3 f4 f7 f8 f9 f10 hf1 hc1 hc2,
          stepA_8 m c t _ _ _ _ _ _ _ _ _ _ _ _ _ _ _ _ _ _ _ _ f1 f2 f3 f4 f7 f8 f9 f10 hf1 hf2 hf3 hf4 hI.2 hc1 hc2⟩
    · sl_close
  isplitl [Ho]; · sl_close
  isplitl [H1]; · sl_close
  isplitl [H2]; · sl_close
  isplitl [H3]; · sl_close
  isplitl [H4]; · sl_close
  isplitl [H5]; · iexact H5
  iexact H6

set_option maxHeartbeats 1000000 in
/-- The last point's run. -/
theorem body_C (c : Dev nD) (t : Fin cfg0.N) (hc1 : ¬ k0_cond1 (grid0.coords t) = 1#1) (hc2 : k0_cond2 (grid0.coords t) = 1#1) :
    pre m c t ⊢ wp frame (wpE (defs₀ (F := Ideal)) 𝒱₀ (c : Thread nD τ) none) Set.univ (bodyAt0 (F := Ideal) t) fun _ => post m c t := by
  unfold pre post
  rw [leaves_4' m c t hc2, leaves_5' m c t hc2]
  simp only [beforeV_0, beforeV_1, beforeV_2, beforeV_3]
  unfold ΦV owns Dat.owesAt Pipeline.owesWithin
  iintro ⟨⟨⟨%f7, %f8, %hI, H7, H8, ⟨%f9, H9⟩, ⟨%f10, H10⟩⟩, ⟨%r, Hr⟩⟩, ⟨%o, %ho, Ho⟩, ⟨%d0, %f1, %hf1, H1⟩, ⟨%d1, %f2, %hf2, H2⟩, ⟨%d2, %f3, %hf3, H3⟩,
    ⟨%d3, %f4, %hf4, H4⟩, ⟨%d4, %f5, %hf5, H5⟩, ⟨%d5, %f6, %hf6, H6⟩⟩
  iapply ((runC c (grid0.coords t) _ _ _ _ _ _ _ _ _ _ _ _ _ _ _ _ _ _ _ _ f2 f3 f4 f5 f6 f7 f8 f9 f10 hc1 hc2).2.2.2.2.2 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H2, H3, H4, H5, H6, H7, H8, H9, H10⟩
  have ht : t.val = 7 := (cond2_iff t).mp hc2
  have h0 : 0 < t.val := by omega
  isplitl [H7 H8 H9 H10 Hr]
  · isplitl [H7 H8 H9 H10]
    · iexists f7
      iexists _
      isplitr
      swap
      · isplitl [H7]; · iexact H7
        isplitl [H8]; · iexact H8
        sl_close
      · ipureintro
        exact ⟨fun _ => hI.1 h0, stepC_8 m c t _ _ _ _ _ _ _ _ _ _ _ _ _ _ _ _ _ _ _ _ f2 f3 f4 f5 f6 f7 f8 f9 f10 hf2 hf3 hf4 (hI.1 h0) hI.2 hc1 hc2⟩
    · sl_close
  isplitl [Ho]; · sl_close
  isplitl [H1]; · sl_close
  isplitl [H2]; · sl_close
  isplitl [H3]; · sl_close
  isplitl [H4]; · sl_close
  isplitl [H5]
  · iexists _
    isplitr
    swap
    · iexact H5
    · ipureintro
      exact stepC_5 m c t _ _ _ _ _ _ _ _ _ _ _ _ _ _ _ _ _ _ _ _ f2 f3 f4 f5 f6 f7 f8 f9 f10 hf2 hf3 hf4 (hI.1 h0) hI.2 ht hc1 hc2
  · iexists _
    isplitr
    swap
    · iexact H6
    · ipureintro
      exact stepC_6 m c t _ _ _ _ _ _ _ _ _ _ _ _ _ _ _ _ _ _ _ _ f2 f3 f4 f5 f6 f7 f8 f9 f10 hf2 hf3 hf4 (hI.1 h0) hI.2 ht hc1 hc2

/-- The body obligation of the exact run. -/
theorem body_obligationV (c : Dev nD) : BodyObligation (datsV m 0 c) (defs₀ (F := Ideal)) 𝒱₀ () Set.univ := fun t => by
  rw [bigSep_W0, bigSep_W0, defs₀_row]
  show pre m c t ⊢ wp frame (wpE (defs₀ (F := Ideal)) 𝒱₀ (c : Thread nD τ) none) Set.univ (bodyAt0 (F := Ideal) t) fun _ => post m c t
  by_cases hc1 : k0_cond1 (grid0.coords t) = 1#1
  · have hc2 : ¬ k0_cond2 (grid0.coords t) = 1#1 := fun h => absurd (((cond2_iff t).mp h).symm.trans ((cond1_iff t).mp hc1)) (by decide)
    exact body_A m c t hc1 hc2
  · by_cases hc2 : k0_cond2 (grid0.coords t) = 1#1
    · exact body_C m c t hc1 hc2
    · exact body_B m c t hc1 hc2

/-! ## The launch -/

/-- Any scratch will do before the first point. -/
theorem scratch_in (c : Dev nD) : ΦA spec0 c ⊢ ΦV m c 0 := by
  unfold ΦA ΦV
  rw [scopedRest0_eq]
  simp only [← held_whole]
  iintro ⟨⟨⟨%f7, H7⟩, ⟨%f8, H8⟩, ⟨%f9, H9⟩, ⟨%f10, H10⟩⟩, ⟨%r, Hr⟩⟩
  isplitl [H7 H8 H9 H10]
  · iexists f7
    iexists f8
    isplitr
    · ipureintro
      exact ⟨fun h => absurd h (by decide), fun y hy => absurd hy (by omega)⟩
    · isplitl [H7]; · iexact H7
      isplitl [H8]; · iexact H8
      sl_close
  · sl_close

/-- After the last point the scratch is given back. -/
theorem scratch_out (c : Dev nD) (n : ℕ) : ΦV m c n ⊢ ΦA spec0 c := by
  unfold ΦA ΦV
  rw [scopedRest0_eq]
  simp only [← held_whole]
  iintro ⟨⟨%f7, %f8, %hI, H7, H8, ⟨%f9, H9⟩, ⟨%f10, H10⟩⟩, ⟨%r, Hr⟩⟩
  isplitl [H7 H8 H9 H10]
  · isplitl [H7]; · (iexists f7; iexact H7)
    isplitl [H8]; · (iexists f8; iexact H8)
    isplitl [H9]; · (iexists f9; iexact H9)
    iexists f10; iexact H10
  · sl_close

set_option backward.isDefEq.respectTransparency.types false in
/-- The exact run. -/
theorem run_mainV : θ_run defs (onTc (τ := τ) (main (F := Ideal))) (s₀ m ρ) (fun r =>
    Pipeline.FramePost cfgs (datsV m) 0 (Pipeline.afterTail₀ cfgs (datsV m) 0 (V0 m) [hostOps1]) r ∧ r.2.sem = fun _ => 0) :=
  Pipeline.θ_run_frame_around_track cfgs (datsV m) 0 launch0 defs₀ 𝒱₀ m ρ main
    (hbody := fun c => (body_obligationV m c).loose) (hshare := fun c => (datsV m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hin := scratch_in m) (hout := fun c => scratch_out m c _)
    (Q' := _) (hQ' := fun _ h => h)

end Cert.Proof.KernelIdeal

end
-- ==== Proof.KernelIdeal.Results.lean ====
/-
  The kernel's two results after the run, at exact arithmetic.
-/
module

public import proofs.«01_k».proof.Proof.KernelIdeal.Value
public import proofs.«01_k».proof.Proof.KernelIdeal.Frame
public import Idealize.ShloMosaic.Lib.Claim
public import Idealize.ShloMosaic.Lib.Pipeline.ValueKit

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

/-- The proof's resource algebra: the frame kit's. -/
local notation "𝕄" => MT nD τ sig Unit (Elt Ideal) ℕ (UR sig nD τ) ℕ

variable (m : (ℓ : Loc nD τ sig) → Buf (Elt Ideal) ℓ) (ρ : Dev nD → PrngReg)

/-- A result's array ends at what the last point leaves in its buffer. -/
theorem array_4 (c : Dev nD) (dat : Dat τ (Elt Ideal) Unit ℕ (UR sig nD τ) ℕ cfg0 c) (G : S384x4096.Idx → EReal) (h : dat.after 4 t0_7 = G) :
    dat.arrAt 4 cfg0.N = G :=
  dat.arrAt_eq_of_after_last 4 t0_7 (by decide +kernel) G fun j => by rw [h]; rfl
/-- The same of the second result. -/
theorem array_5 (c : Dev nD) (dat : Dat τ (Elt Ideal) Unit ℕ (UR sig nD τ) ℕ cfg0 c) (G : S1x384.Idx → EReal) (h : dat.after 5 t0_7 = G) :
    dat.arrAt 5 cfg0.N = G :=
  dat.arrAt_eq_of_after_last 5 t0_7 (by decide +kernel) G fun j => by rw [h]; rfl

/-- The array of codes after the run. -/
theorem codes_array (c : Dev nD) : (datsV m 0 c).arrAt 4 cfg0.N = codesOf (F := Ideal) (product m c) :=
  array_4 c (datsV m 0 c) _ rfl

/-- The array of scales after the run. -/
theorem scales_array (c : Dev nD) : (datsV m 0 c).arrAt 5 cfg0.N = scalesOf (F := Ideal) (product m c) :=
  array_5 c (datsV m 0 c) _ rfl

/-- The kernel's first result after the run. -/
theorem codes_result (c : Dev nD) : Pipeline.afterTail₀ cfgs (datsV m) 0 (V0 m) [hostOps1] c main_v2
    = shapeCast S384x1x4096 (codesOf (F := Ideal) (product m c)) shapeCasts_S384x4096_S384x1x4096 := by
  unfold Pipeline.afterTail₀
  simp only [hostOps1, List.flatten_cons, List.flatten_nil, List.append_nil, List.cons_append, List.nil_append]
  entry_read
  exact congrArg (fun A => shapeCast _ A _) ((Pipeline.withArrays_arr _ launch0.win.arr_inj c _ _ 4).trans (codes_array m c))

/-- The kernel's second result after the run. -/
theorem scales_result (c : Dev nD) : Pipeline.afterTail₀ cfgs (datsV m) 0 (V0 m) [hostOps1] c main_v3
    = shapeCast S384x1 (scalesOf (F := Ideal) (product m c)) shapeCasts_S1x384_S384x1 := by
  unfold Pipeline.afterTail₀
  simp only [hostOps1, List.flatten_cons, List.flatten_nil, List.append_nil, List.cons_append, List.nil_append]
  entry_read
  exact congrArg (fun A => shapeCast _ A _) ((Pipeline.withArrays_arr _ launch0.win.arr_inj c _ _ 5).trans (scales_array m c))

/-- The region finds `x` with its unit axis dropped. -/
theorem V_x (c : Dev nD) : V m c main_v0 = shapeCast S384x12288 (m ((c : Thread nD τ).loc main_arg0)) shapeCasts_S384x1x12288_S384x12288 := by
  entry_read
  rfl

/-- The kernel runs and leaves its two results, its arguments unchanged. -/
theorem run_value : θ_run defs (onTc (τ := τ) (main (F := Ideal))) ⟨m, fun _ => 0, ρ⟩ (fun r => ∀ c : Dev nD,
      r.2.mem ((c.tc : Thread nD τ).loc main_v2) = shapeCast S384x1x4096 (codesOf (F := Ideal) (product m c)) shapeCasts_S384x4096_S384x1x4096
      ∧ r.2.mem ((c.tc : Thread nD τ).loc main_v3) = shapeCast S384x1 (scalesOf (F := Ideal) (product m c)) shapeCasts_S1x384_S384x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨
      ((h.1.1 c).2 main_v2 (Pipeline.mem_restRefs_of main_v2 (by decide) (by decide))).trans (codes_result m c),
      ((h.1.1 c).2 main_v3 (Pipeline.mem_restRefs_of main_v3 (by decide) (by decide))).trans (scales_result m c),
      h.2.1 c⟩) (θ_run_and (run_mainV m ρ) (run_frame m ρ))

end Cert.Proof.KernelIdeal

end
-- ==== Proof.ReferenceIdeal.Value.lean ====
/-
  What the reference's host lines leave for the region, and the scales.
-/
module

public import proofs.«01_k».proof.Proof.ReferenceIdeal.Terms
public import Idealize.ShloMosaic.Lib.Claim

@[expose] public section

set_option maxRecDepth 65536

noncomputable section

namespace Cert.Proof.ReferenceIdeal

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD)

/-- The product, of the arguments. -/
abbrev prodOf : FVec Ideal S384x1x4096 .f32 :=
  prod (m ((c : Thread nD τ).loc main_arg0)) (m ((c : Thread nD τ).loc main_arg1)) (m ((c : Thread nD τ).loc main_arg2)) (m ((c : Thread nD τ).loc main_arg3))

/-- The scales the host computes. -/
theorem V_scales : V m c main_v51 = twoTo (expo (rowMax (prodOf m c))) := by
  unfold V
  simp only [hostOps0, hostOps0_1, hostOps0_2, hostOps0_3, List.flatten_cons, List.flatten_nil, List.append_nil, List.cons_append, List.nil_append]
  entry_read
  rfl

/-- The values the region rounds to codes. -/
theorem V_clipped : V m c main_v58 = clipped (prodOf m c) := by
  unfold V
  simp only [hostOps0, hostOps0_1, hostOps0_2, hostOps0_3, List.flatten_cons, List.flatten_nil, List.append_nil, List.cons_append, List.nil_append]
  entry_read
  rfl

end Cert.Proof.ReferenceIdeal

end
-- ==== Proof.ReferenceIdeal.Results.lean ====
/-
  The reference's two results after the run.
-/
module

public import proofs.«01_k».proof.Proof.ReferenceIdeal.Value
public import Idealize.ShloMosaic.Lib.Pipeline.ValueKit

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic
open Idealize.SL.RA
open Idealize.ShloMosaic.Pipeline (Dat)

variable (m : (ℓ : Loc nD τ sig) → Buf (Elt Ideal) ℓ) (ρ : Dev nD → PrngReg)

/-- What the region stores: its input, at exact arithmetic. -/
theorem stored (x : Vec Ideal S384x1x4096 .f32) : out0_1 (F := Ideal) x = x := by
  unfold out0_1
  have e : View.ld (Val := Elt Ideal) x r0_0 = x := View.ld_unit_lit _ x (by decide)
  rw [e]
  refine (View.canon_cons_unit_lit _ _ _ (by decide)).trans ?_
  funext y
  pointwise [k0_pay1]

/-- The region's one point. -/
abbrev point : Fin cfg0.N := ⟨0, by decide⟩

/-- There it reads its input's block at index zero. -/
theorem index_point : win0_0.index point = ![0, 0, 0] := by decide

/-- The region's one point reads its input whole. -/
theorem input_block (c : Dev nD) (y : S384x1x4096.Idx) : iblk m c 0 point y = V m c main_v58 y := by
  blk_ext [iblk, index_point]

/-- The second array ends at what the point leaves in its buffer. -/
theorem array_1 (c : Dev nD) (dat : Dat τ (Elt Ideal) Unit ℕ (UR sig nD τ) ℕ cfg0 c) (G : S384x1x4096.Idx → EReal) (h : dat.after 1 point = G) :
    dat.arrAt 1 cfg0.N = G :=
  dat.arrAt_eq_of_after_last 1 point (by decide +kernel) G fun j => by rw [h]; rfl

/-- The array of codes after the run. -/
theorem codes_array (c : Dev nD) : (dats m 0 c).arrAt 1 cfg0.N = clipped (prodOf m c) := by
  refine array_1 c (dats m 0 c) _ ((after0_1 m c point).trans ((stored _).trans ?_))
  rw [← V_clipped]
  exact funext (input_block m c)

/-- The reference runs and leaves its two results, its arguments unchanged. -/
theorem run_value : θ_run defs (onTc (τ := τ) (main (F := Ideal))) ⟨m, fun _ => 0, ρ⟩ (fun r => ∀ c : Dev nD,
      r.2.mem ((c.tc : Thread nD τ).loc main_v59) = clipped (prodOf m c)
      ∧ r.2.mem ((c.tc : Thread nD τ).loc main_v51) = twoTo (expo (rowMax (prodOf m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨
      ((h.1 c).1 1).trans (codes_array m c),
      ((h.1 c).2 main_v51 (Pipeline.mem_restRefs_of main_v51 (by decide) (by decide))).trans (V_scales m c),
      h.2 c⟩) (θ_run_and (run_main m ρ) (unchanged m ρ))

end Cert.Proof.ReferenceIdeal

end
-- ==== Proof.Results.lean ====
/-
  From memories agreeing on the arguments, kernel and reference end with equal codes and equal scales.
-/
module

public import proofs.«01_k».proof.Defs
public import proofs.«01_k».proof.Proof.Algebraic
public import proofs.«01_k».proof.Proof.KernelIdeal.Results
public import proofs.«01_k».proof.Proof.ReferenceIdeal.Results

@[expose] public section

set_option maxRecDepth 16384

noncomputable section

namespace Cert.Proof

open Idealize.ShloMosaic Idealize.ShloMosaic.TcCoe Idealize.ShloMosaic.Tactic
open Cert.Proof.KernelIdeal (accum codesOf scalesOf product)

/-- `x` with its unit axis dropped. -/
theorem flat_apply (X : FVec Ideal Cert.KernelIdeal.S384x1x12288 .bf16) (h) (r : Fin 384) (k : Fin 12288) :
    shapeCast Cert.KernelIdeal.S384x12288 X h (ix2 r k) = X (ix3 r 0 k) := by
  pointwise []

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
include h0 h1 h2 h3

/-- The two runs' products agree. -/
theorem products_agree (r : Fin 384) (n : Fin 4096) : ReferenceIdeal.prodOf m' c (ix3 r 0 n) = product m c (ix2 r n) := by
  unfold ReferenceIdeal.prodOf KernelIdeal.product
  rw [h0, h1, h2, h3, Cert.KernelIdeal.Gen.V_main_arg1, Cert.KernelIdeal.Gen.V_main_arg2, Cert.KernelIdeal.Gen.V_main_arg3, KernelIdeal.V_x]
  exact products _ _ _ _ _ (flat_apply _ _) r n

/-- The two runs' codes agree. -/
theorem codes_equal : ReferenceIdeal.clipped (ReferenceIdeal.prodOf m' c)
    = shapeCast Cert.KernelIdeal.S384x1x4096 (codesOf (F := Ideal) (product m c)) Cert.KernelIdeal.Gen.facts.shapeCasts_S384x4096_S384x1x4096 := by
  funext y
  obtain ⟨r, z, n, rfl⟩ : ∃ (r : Fin 384) (z : Fin 1) (n : Fin 4096), y = ix3 r z n := ⟨y 0, y 1, y 2, eq_ix3 y⟩
  obtain rfl : z = 0 := Subsingleton.elim _ _
  refine (codes_agree _ _ (products_agree m m' c h0 h1 h2 h3) r n).trans ?_
  generalize codesOf (F := Ideal) (product m c) = C
  pointwise []

/-- The two runs' scales agree. -/
theorem scales_equal : ReferenceIdeal.twoTo (ReferenceIdeal.expo (ReferenceIdeal.rowMax (ReferenceIdeal.prodOf m' c)))
    = shapeCast Cert.KernelIdeal.S384x1 (scalesOf (F := Ideal) (product m c)) Cert.KernelIdeal.Gen.facts.shapeCasts_S1x384_S384x1 := by
  funext y
  obtain ⟨r, z, rfl⟩ : ∃ (r : Fin 384) (z : Fin 1), y = ix2 r z := ⟨y 0, y 1, eq_ix2 y⟩
  obtain rfl : z = 0 := Subsingleton.elim _ _
  refine (scales_agree _ _ (products_agree m m' c h0 h1 h2 h3) r).trans ?_
  generalize scalesOf (F := Ideal) (product m c) = C
  pointwise []

end

/-- From memories agreeing on the arguments both programs run and end with equal results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, _, KernelIdeal.run_value m g, ?_⟩
  refine (θ_run _ _ _).mono (fun r h c => ?_) (ReferenceIdeal.run_value m' g')
  obtain ⟨h0, h1, h2, h3⟩ := hagree c
  exact ⟨(h c).1.trans (codes_equal m m' c h0 h1 h2 h3), (h c).2.1.trans (scales_equal m m' c h0 h1 h2 h3), (h c).2.2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.KernelIdeal.Frame
public import proofs.«01_k».proof.Proof.Results

@[expose] public section

noncomputable section

namespace Cert.Proof

open Idealize.ShloMosaic Idealize.SL.Sem

/-- The certificate: the three programs' frames, that the idealized kernel is the kernel, and that at exact arithmetic
    kernel and reference end with equal results. -/
theorem claim : Cert.Claim := ⟨Cert.Kernel.Gen.facts, Cert.KernelIdeal.Gen.facts, Cert.ReferenceIdeal.Gen.facts,
  fun m ρ _ => Cert.Proof.Kernel.run_frame m ρ,
  fun m ρ _ => Cert.Proof.KernelIdeal.run_frame m ρ,
  fun m ρ _ => Cert.ReferenceIdeal.Gen.frame m ρ,
  trivial,
  Cert.Proof.algebraic⟩

end Cert.Proof

end
